-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_c_9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x64 : Shape := ⟨2, ![4096, 64]⟩
abbrev S4096 : Shape := ⟨1, ![4096]⟩
abbrev S_ : Shape := ⟨0, ![]⟩

class Facts : Prop where
  reducesTo_S4096x64_S4096_d1 : S4096x64.ReducesTo [1] S4096
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x64 .f32) (main_arg1 : IVec S4096 32) : IVec S_ 1 :=
  let main_v0 : FVec F S4096x64 .f32 := mulf main_arg0 main_arg0
  let main_cst : FVec F S_ .f32 := constant S_ .f32 0x00000000#32
  let main_v1 : FVec F S4096 .f32 := (fun x v => Host.reduceAdd x v reducesTo_S4096x64_S4096_d1 h_S_) main_v0 main_cst
  let main_cst_0 : FVec F S_ .f32 := constant S_ .f32 0x48800000#32
  let main_v2 : FVec F S4096 .f32 := broadcastInDim S4096 ![] bcast_S_S4096 main_cst_0
  let main_v3 : IVec S4096 1 := cmpf .ole main_v1 main_v2
  let main_c : IVec S_ 1 := constantI S_ 1 1#1
  let main_v4 : IVec S_ 1 := (fun x v => Host.reduce IntOp.andi x v reducesTo_S4096_S_d0 h_S_) main_v3 main_c
  let main_c_1 : IVec S_ 32 := constantI S_ 32 0#32
  let main_v5 : IVec S4096 32 := broadcastInDim S4096 ![] bcast_S_S4096 main_c_1
  let main_v6 : IVec S4096 1 := cmpi .sge main_arg1 main_v5
  let main_c_2 : IVec S_ 32 := constantI S_ 32 100#32
  let main_v7 : IVec S4096 32 := broadcastInDim S4096 ![] bcast_S_S4096 main_c_2
  let main_v8 : IVec S4096 1 := cmpi .slt main_arg1 main_v7
  let main_v9 : IVec S4096 1 := andi main_v6 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v4 main_v10
  main_v11
-- ==== Kernel.lean ====
abbrev S4096x64 : Shape := ⟨2, ![4096, 64]⟩
abbrev S4096 : Shape := ⟨1, ![4096]⟩
abbrev S4096x1 : Shape := ⟨2, ![4096, 1]⟩
abbrev S1x1x1 : Shape := ⟨3, ![1, 1, 1]⟩
abbrev S4096x192 : Shape := ⟨2, ![4096, 192]⟩
abbrev S1x128 : Shape := ⟨2, ![1, 128]⟩
abbrev S4096x128 : Shape := ⟨2, ![4096, 128]⟩
abbrev S4096x26 : Shape := ⟨2, ![4096, 26]⟩
abbrev S128 : Shape := ⟨1, ![128]⟩
abbrev S1x1 : Shape := ⟨2, ![1, 1]⟩
abbrev S512x192 : Shape := ⟨2, ![512, 192]⟩
abbrev S512x512 : Shape := ⟨2, ![512, 512]⟩
abbrev S512 : Shape := ⟨1, ![512]⟩
abbrev S1x512 : Shape := ⟨2, ![1, 512]⟩
abbrev S512x1 : Shape := ⟨2, ![512, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S4096x1, .i32⟩
  | .hbm, ⟨3, _⟩ => ⟨S1x1x1, .f32⟩
  | .hbm, ⟨4, _⟩ => ⟨S_, .f32⟩
  | .hbm, ⟨5, _⟩ => ⟨S_, .i32⟩
  | .local _ .vmem, ⟨0, _⟩ => ⟨S4096x64, .f32⟩
  | .local _ .vmem, ⟨1, _⟩ => ⟨S4096x1, .i32⟩
  | .local _ .vmem, ⟨2, _⟩ => ⟨S1x1x1, .f32⟩
  | .local _ .vmem, ⟨3, _⟩ => ⟨S4096x192, .bf16⟩
  | .local _ .vmem, ⟨4, _⟩ => ⟨S4096x192, .bf16⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x64 : Shape := ⟨2, ![4096, 64]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩
abbrev S4096x3 : Shape := ⟨2, ![4096, 3]⟩
abbrev S1 : Shape := ⟨1, ![1]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S4096x64, .f32⟩
  | 1 => ⟨S4096, .i32⟩
  | 2 => ⟨S4096x64, .f32⟩
  | 3 => ⟨S_, .f32⟩
  | 4 => ⟨S4096, .f32⟩
  | 5 => ⟨S4096x1, .f32⟩
  | 6 => ⟨S1x4096, .f32⟩
  | 7 => ⟨S4096x4096, .f32⟩
  | 8 => ⟨S4096x4096, .f32⟩
  | 9 => ⟨S4096x4096, .f32⟩
  | 10 => ⟨S64x4096, .f32⟩
  | 11 => ⟨S4096x4096, .f32⟩
  | 12 => ⟨S_, .f32⟩
  | 13 => ⟨S4096x4096, .f32⟩
  | 14 => ⟨S4096x4096, .f32⟩
  | 15 => ⟨S4096x4096, .f32⟩
  | 16 => ⟨S_, .f32⟩
  | 17 => ⟨S4096x4096, .f32⟩
  | 18 => ⟨S4096x4096, .f32⟩
  | 19 => ⟨S4096x1, .i32⟩
  | 20 => ⟨S1x4096, .i32⟩
  | 21 => ⟨S4096x4096, .i32⟩
  | 22 => ⟨S4096x4096, .i32⟩
  | 23 => ⟨S4096x4096, .i1⟩
  | 24 => ⟨S4096x4096, .i32⟩
  | 25 => ⟨S4096x4096, .i32⟩
  | 26 => ⟨S_, .i32⟩
  | 27 => ⟨S4096x4096, .i32⟩
  | 28 => ⟨S4096x4096, .i32⟩
  | 29 => ⟨S4096x4096, .i1⟩
  | 30 => ⟨S4096x4096, .i1⟩
  | 31 => ⟨S4096x4096, .i1⟩
  | 32 => ⟨S4096x4096, .i1⟩
  | 33 => ⟨S_, .f32⟩
  | 34 => ⟨S_, .f32⟩
  | 35 => ⟨S4096x4096, .f32⟩
  | 36 => ⟨S4096x4096, .f32⟩
  | 37 => ⟨S4096x4096, .i32⟩
  | 38 => ⟨S_, .f32⟩
  | 39 => ⟨S_, .i32⟩
  | 40 => ⟨S4096, .f32⟩
  | 41 => ⟨S4096, .i32⟩
  | 42 => ⟨S_, .f32⟩
  | 43 => ⟨S_, .f32⟩
  | 44 => ⟨S4096x4096, .f32⟩
  | 45 => ⟨S4096x4096, .f32⟩
  | 46 => ⟨S4096x4096, .i32⟩
  | 47 => ⟨S_, .f32⟩
  | 48 => ⟨S_, .i32⟩
  | 49 => ⟨S4096, .f32⟩
  | 50 => ⟨S4096, .i32⟩
  | 51 => ⟨S4096, .i32⟩
  | 52 => ⟨S4096x1, .i32⟩
  | 53 => ⟨S4096x1, .i32⟩
  | 54 => ⟨S4096x1, .i32⟩
  | 55 => ⟨S4096x3, .i32⟩
  | 56 => ⟨S4096x1, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S1, .i32⟩
  | 67 => ⟨S_, .i32⟩
  | 68 => ⟨S4096x1, .i32⟩
  | 69 => ⟨S4096x1, .i1⟩
  | 70 => ⟨S1x1, .i32⟩
  | 71 => ⟨S4096x1, .i32⟩
  | 72 => ⟨S4096x1, .i1⟩
  | 73 => ⟨S4096x1, .i1⟩
  | 74 => ⟨S_, .i1⟩
  | 75 => ⟨S4096, .i1⟩
  | 76 => ⟨S4096x64, .f32⟩
  | 77 => ⟨S4096x64, .i1⟩
  | 78 => ⟨S_, .f32⟩
  | 79 => ⟨S4096x64, .f32⟩
  | 80 => ⟨S4096x64, .f32⟩
  | 81 => ⟨S4096x1, .i32⟩
  | 82 => ⟨S4096, .i32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S1, .i32⟩
  | 92 => ⟨S_, .i32⟩
  | 93 => ⟨S4096x1, .i32⟩
  | 94 => ⟨S4096x1, .i1⟩
  | 95 => ⟨S1x1, .i32⟩
  | 96 => ⟨S4096x1, .i32⟩
  | 97 => ⟨S4096x1, .i1⟩
  | 98 => ⟨S4096x1, .i1⟩
  | 99 => ⟨S_, .i1⟩
  | 100 => ⟨S4096, .i1⟩
  | 101 => ⟨S4096x64, .f32⟩
  | 102 => ⟨S4096x64, .i1⟩
  | 103 => ⟨S_, .f32⟩
  | 104 => ⟨S4096x64, .f32⟩
  | 105 => ⟨S4096x64, .f32⟩
  | 106 => ⟨S4096x1, .i32⟩
  | 107 => ⟨S4096, .i32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S1, .i32⟩
  | 117 => ⟨S_, .i32⟩
  | 118 => ⟨S4096x1, .i32⟩
  | 119 => ⟨S4096x1, .i1⟩
  | 120 => ⟨S1x1, .i32⟩
  | 121 => ⟨S4096x1, .i32⟩
  | 122 => ⟨S4096x1, .i1⟩
  | 123 => ⟨S4096x1, .i1⟩
  | 124 => ⟨S_, .i1⟩
  | 125 => ⟨S4096, .i1⟩
  | 126 => ⟨S4096x64, .f32⟩
  | 127 => ⟨S4096x64, .i1⟩
  | _ => ⟨S4096x64, .f32⟩

abbrev hbmTy0_1 (i : Nat) : BufTy := match i % 128 with
  | 0 => ⟨S_, .f32⟩
  | 1 => ⟨S4096x64, .f32⟩
  | 2 => ⟨S4096x64, .f32⟩
  | 3 => ⟨S4096x64, .f32⟩
  | 4 => ⟨S4096x64, .f32⟩
  | 5 => ⟨S_, .f32⟩
  | 6 => ⟨S4096, .f32⟩
  | 7 => ⟨S4096x64, .f32⟩
  | 8 => ⟨S4096x64, .f32⟩
  | 9 => ⟨S_, .f32⟩
  | 10 => ⟨S4096, .f32⟩
  | 11 => ⟨S4096, .f32⟩
  | 12 => ⟨S_, .f32⟩
  | 13 => ⟨S4096, .f32⟩
  | 14 => ⟨S4096, .f32⟩
  | 15 => ⟨S_, .f32⟩
  | 16 => ⟨S4096, .f32⟩
  | 17 => ⟨S4096, .f32⟩
  | 18 => ⟨S_, .f32⟩
  | 19 => ⟨S_, .f32⟩
  | 20 => ⟨S_, .f32⟩
  | 21 => ⟨S_, .f32⟩
  | 22 => ⟨S_, .i32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v27 : Ref sig .tc := ⟨.hbm, 36, rfl⟩
abbrev main_call1_v0 : Ref sig .tc := ⟨.hbm, 37, rfl⟩
abbrev main_call1_cst : Ref sig .tc := ⟨.hbm, 38, rfl⟩
abbrev main_call1_c : Ref sig .tc := ⟨.hbm, 39, rfl⟩
abbrev main_call1_v1_0 : Ref sig .tc := ⟨.hbm, 40, rfl⟩
abbrev main_v28 : Ref sig .tc := ⟨.hbm, 41, rfl⟩
abbrev main_cst_3 : Ref sig .tc := ⟨.hbm, 42, rfl⟩
abbrev main_call2_v0 : Ref sig .tc := ⟨.hbm, 43, rfl⟩
abbrev main_call2_v1 : Ref sig .tc := ⟨.hbm, 44, rfl⟩
abbrev main_v29 : Ref sig .tc := ⟨.hbm, 45, rfl⟩
abbrev main_call3_v0 : Ref sig .tc := ⟨.hbm, 46, rfl⟩
abbrev main_call3_cst : Ref sig .tc := ⟨.hbm, 47, rfl⟩
abbrev main_call3_c : Ref sig .tc := ⟨.hbm, 48, rfl⟩
abbrev main_call3_v1_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call4_c : Ref sig .tc := ⟨.hbm, 58, rfl⟩
abbrev main_call4_v0 : Ref sig .tc := ⟨.hbm, 59, rfl⟩
abbrev main_call4_v1 : Ref sig .tc := ⟨.hbm, 60, rfl⟩
abbrev main_call4_c_0 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_c_1 : Ref sig .tc := ⟨.hbm, 66, rfl⟩
abbrev main_call4_c_2 : Ref sig .tc := ⟨.hbm, 67, rfl⟩
abbrev main_call4_v6 : Ref sig .tc := ⟨.hbm, 68, rfl⟩
abbrev main_call4_v7 : Ref sig .tc := ⟨.hbm, 69, rfl⟩
abbrev main_call4_v8 : Ref sig .tc := ⟨.hbm, 70, rfl⟩
abbrev main_call4_v9 : Ref sig .tc := ⟨.hbm, 71, rfl⟩
abbrev main_call4_v10 : Ref sig .tc := ⟨.hbm, 72, rfl⟩
abbrev main_call4_v11 : Ref sig .tc := ⟨.hbm, 73, rfl⟩
abbrev main_call4_c_3 : Ref sig .tc := ⟨.hbm, 74, rfl⟩
abbrev main_call4_v12 : Ref sig .tc := ⟨.hbm, 75, rfl⟩
abbrev main_call4_v13 : Ref sig .tc := ⟨.hbm, 76, rfl⟩
abbrev main_call4_v14 : Ref sig .tc := ⟨.hbm, 77, rfl⟩
abbrev main_call4_cst : Ref sig .tc := ⟨.hbm, 78, rfl⟩
abbrev main_call4_v15 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_call5_c : Ref sig .tc := ⟨.hbm, 83, rfl⟩
abbrev main_call5_v0 : Ref sig .tc := ⟨.hbm, 84, rfl⟩
abbrev main_call5_v1 : Ref sig .tc := ⟨.hbm, 85, rfl⟩
abbrev main_call5_c_0 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_v5 : Ref sig .tc := ⟨.hbm, 90, rfl⟩
abbrev main_call5_c_1 : Ref sig .tc := ⟨.hbm, 91, rfl⟩
abbrev main_call5_c_2 : Ref sig .tc := ⟨.hbm, 92, rfl⟩
abbrev main_call5_v6 : Ref sig .tc := ⟨.hbm, 93, rfl⟩
abbrev main_call5_v7 : Ref sig .tc := ⟨.hbm, 94, rfl⟩
abbrev main_call5_v8 : Ref sig .tc := ⟨.hbm, 95, rfl⟩
abbrev main_call5_v9 : Ref sig .tc := ⟨.hbm, 96, rfl⟩
abbrev main_call5_v10 : Ref sig .tc := ⟨.hbm, 97, rfl⟩
abbrev main_call5_v11 : Ref sig .tc := ⟨.hbm, 98, rfl⟩
abbrev main_call5_c_3 : Ref sig .tc := ⟨.hbm, 99, rfl⟩
abbrev main_call5_v12 : Ref sig .tc := ⟨.hbm, 100, rfl⟩
abbrev main_call5_v13 : Ref sig .tc := ⟨.hbm, 101, rfl⟩
abbrev main_call5_v14 : Ref sig .tc := ⟨.hbm, 102, rfl⟩
abbrev main_call5_cst : Ref sig .tc := ⟨.hbm, 103, rfl⟩
abbrev main_call5_v15 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_call6_c : Ref sig .tc := ⟨.hbm, 108, rfl⟩
abbrev main_call6_v0 : Ref sig .tc := ⟨.hbm, 109, rfl⟩
abbrev main_call6_v1 : Ref sig .tc := ⟨.hbm, 110, rfl⟩
abbrev main_call6_c_0 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_call6_v5 : Ref sig .tc := ⟨.hbm, 115, rfl⟩
abbrev main_call6_c_1 : Ref sig .tc := ⟨.hbm, 116, rfl⟩
abbrev main_call6_c_2 : Ref sig .tc := ⟨.hbm, 117, rfl⟩
abbrev main_call6_v6 : Ref sig .tc := ⟨.hbm, 118, rfl⟩
abbrev main_call6_v7 : Ref sig .tc := ⟨.hbm, 119, rfl⟩
abbrev main_call6_v8 : Ref sig .tc := ⟨.hbm, 120, rfl⟩
abbrev main_call6_v9 : Ref sig .tc := ⟨.hbm, 121, rfl⟩
abbrev main_call6_v10 : Ref sig .tc := ⟨.hbm, 122, rfl⟩
abbrev main_call6_v11 : Ref sig .tc := ⟨.hbm, 123, rfl⟩
abbrev main_call6_c_3 : Ref sig .tc := ⟨.hbm, 124, rfl⟩
abbrev main_call6_v12 : Ref sig .tc := ⟨.hbm, 125, rfl⟩
abbrev main_call6_v13 : Ref sig .tc := ⟨.hbm, 126, rfl⟩
abbrev main_call6_v14 : Ref sig .tc := ⟨.hbm, 127, rfl⟩
abbrev main_call6_cst : Ref sig .tc := ⟨.hbm, 128, rfl⟩
abbrev main_call6_v15 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_cst_4 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_cst_5 : Ref sig .tc := ⟨.hbm, 137, rfl⟩
abbrev main_v50 : Ref sig .tc := ⟨.hbm, 138, rfl⟩
abbrev main_v51 : Ref sig .tc := ⟨.hbm, 139, rfl⟩
abbrev main_cst_6 : Ref sig .tc := ⟨.hbm, 140, rfl⟩
abbrev main_v52 : Ref sig .tc := ⟨.hbm, 141, rfl⟩
abbrev main_v53 : Ref sig .tc := ⟨.hbm, 142, rfl⟩
abbrev main_call7_cst : Ref sig .tc := ⟨.hbm, 143, rfl⟩
abbrev main_call7_v0 : Ref sig .tc := ⟨.hbm, 144, rfl⟩
abbrev main_v54 : Ref sig .tc := ⟨.hbm, 145, rfl⟩
abbrev main_cst_7 : Ref sig .tc := ⟨.hbm, 146, rfl⟩
abbrev main_v55 : Ref sig .tc := ⟨.hbm, 147, rfl⟩
abbrev main_cst_8 : Ref sig .tc := ⟨.hbm, 148, rfl⟩
abbrev main_v56 : Ref sig .tc := ⟨.hbm, 149, rfl⟩
abbrev main_c_9 : Ref sig .tc := ⟨.hbm, 150, rfl⟩

abbrev nD : Nat := 1
abbrev τ : Topo := Topo.v7x

variable {F : FTy → Type} [FloatOps F]
-- ==== Proof.RefStaged.lean ====
module

public import proofs.«01_k».proof.Defs
public import proofs.«01_k».proof.Proof.Gen.ReferenceIdeal
public import Idealize.ShloMosaic.Lib.Claim

/-! The reference in stages: the distances, the masks, the two index columns, a gather of rows, and the mean loss. -/

@[expose] public section

set_option maxRecDepth 16384

noncomputable section

namespace Cert.ReferenceIdeal.Hand

open Idealize.ShloMosaic Idealize.SL.Sem Cert.ReferenceIdeal Cert.ReferenceIdeal.Gen

/-- A column spread over a square: entry `(i, j)` is `x i`. -/
def alongRows {α : Type} (x : S4096.Idx → α) : S4096x4096.Idx → α :=
  broadcastInDim S4096x4096 ![0, 1] bcast_S4096x1_S4096x4096_0_1 (broadcastInDim S4096x1 ![0] bcast_S4096_S4096x1_0 x)

/-- A row spread over a square: entry `(i, j)` is `x j`. -/
def alongCols {α : Type} (x : S4096.Idx → α) : S4096x4096.Idx → α :=
  broadcastInDim S4096x4096 ![0, 1] bcast_S1x4096_S4096x4096_0_1 (broadcastInDim S1x4096 ![1] bcast_S4096_S1x4096_1 x)

/-- One value over a square. -/
def square {α : Type} (x : S_.Idx → α) : S4096x4096.Idx → α := broadcastInDim S4096x4096 ![] bcast_S_S4096x4096 x

/-- The squared norms. -/
def sqNorms (e : FVec Ideal S4096x64 .f32) : FVec Ideal S4096 .f32 :=
  Host.reduceAdd (mulf e e) (constant (F := Ideal) S_ .f32 0x00000000#32) reducesTo_S4096x64_S4096_d1 h_S_

/-- The squared distances, held at zero from below. -/
def dists (e : FVec Ideal S4096x64 .f32) : FVec Ideal S4096x4096 .f32 :=
  maximumf
    (subf (addf (alongRows (sqNorms e)) (alongCols (sqNorms e)))
      (mulf (square (constant (F := Ideal) S_ .f32 0x40000000#32))
        (Host.dotGeneral dot_S4096x64_S64x4096_S4096x4096_1_0_0_1_n_n none e
          (transpose S64x4096 [1, 0] e transposes_S4096x64_S64x4096_1_0))))
    (square (constant (F := Ideal) S_ .f32 0x00000000#32))

/-- Whether two rows have the same label. -/
def sameLabel (t : IVec S4096 32) : IVec S4096x4096 1 := cmpi .eq (alongRows t) (alongCols t)

/-- Whether two rows are one row. -/
def sameRow : IVec S4096x4096 1 :=
  cmpi .eq (addi (iotaInDim S4096x4096 32 0) (square (constantI S_ 32 0#32))) (iotaInDim S4096x4096 32 1)

/-- The distances to the positives, and minus a thousand million elsewhere. -/
def posDists (e : FVec Ideal S4096x64 .f32) (t : IVec S4096 32) : FVec Ideal S4096x4096 .f32 :=
  select (andi (sameLabel t) (noti sameRow)) (dists e) (square (constant (F := Ideal) S_ .f32 0xCE6E6B28#32))

/-- The distances to the negatives, and a thousand million elsewhere. -/
def negDists (e : FVec Ideal S4096x64 .f32) (t : IVec S4096 32) : FVec Ideal S4096x4096 .f32 :=
  select (noti (sameLabel t)) (dists e) (square (constant (F := Ideal) S_ .f32 0x4E6E6B28#32))

/-- Each row's index of the largest entry. -/
def argmaxes (x : FVec Ideal S4096x4096 .f32) : IVec S4096 32 := fun j =>
  (Host.argReduce reducer_argmax_f32_i32 x (iotaInDim S4096x4096 32 1) (constant (F := Ideal) S_ .f32 0xFF800000#32)
    (constantI S_ 32 0#32) reducesTo_S4096x4096_S4096_d1 h_S_ j).2

/-- Each row's index of the smallest entry. -/
def argmins (x : FVec Ideal S4096x4096 .f32) : IVec S4096 32 := fun j =>
  (Host.argReduce reducer_argmin_f32_i32 x (iotaInDim S4096x4096 32 1) (constant (F := Ideal) S_ .f32 0x7F800000#32)
    (constantI S_ 32 0#32) reducesTo_S4096x4096_S4096_d1 h_S_ j).2

/-- A vector as a column. -/
def asColumn {α : Type} (x : S4096.Idx → α) : S4096x1.Idx → α := broadcastInDim S4096x1 ![0] bcast_S4096_S4096x1_0 x

/-- The triplets: three columns side by side. -/
def triplets (a p n : IVec S4096 32) : IVec S4096x3 32 :=
  concatenate S4096x3 1 [⟨S4096x1, asColumn a⟩, ⟨S4096x1, asColumn p⟩, ⟨S4096x1, asColumn n⟩]
    concatenates_S4096x1_S4096x1_S4096x1_S4096x3_d1

/-- The first column of the triplets. -/
def anchorsOf (u : IVec S4096x3 32) : IVec S4096 32 :=
  shapeCast S4096 (extractStridedSlice S4096x1 ![0, 0] u slices_S4096x3_S4096x1_0_0) shapeCasts_S4096x1_S4096
/-- The second column of the triplets. -/
def positivesOf (u : IVec S4096x3 32) : IVec S4096 32 :=
  shapeCast S4096 (extractStridedSlice S4096x1 ![0, 1] u slices_S4096x3_S4096x1_0_1) shapeCasts_S4096x1_S4096
/-- The third column of the triplets. -/
def negativesOf (u : IVec S4096x3 32) : IVec S4096 32 :=
  shapeCast S4096 (extractStridedSlice S4096x1 ![0, 2] u slices_S4096x3_S4096x1_0_2) shapeCasts_S4096x1_S4096

/-- An index with a negative one counted from the end. -/
def wrapped (i : IVec S4096 32) : IVec S4096x1 32 :=
  asColumn (select (cmpi .slt i (broadcastInDim S4096 ![] bcast_S_S4096 (constantI S_ 32 0#32)))
    (addi i (broadcastInDim S4096 ![] bcast_S_S4096 (constantI S_ 32 4096#32))) i)

/-- Whether each index is that of a row. -/
def inRows (i : IVec S4096x1 32) : IVec S4096 1 :=
  Host.reduce IntOp.andi
    (andi (cmpi .sge i (broadcastInDim S4096x1 ![] bcast_S_S4096x1 (constantI S_ 32 0#32)))
      (cmpi .sle i (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- The rows of `e` at the given indices. -/
def takeRows (e : FVec Ideal S4096x64 .f32) (i : IVec S4096 32) : FVec Ideal S4096x64 .f32 :=
  select (broadcastInDim S4096x64 ![0] bcast_S4096_S4096x64_0 (inRows (wrapped i)))
    (Host.gather gather_S4096x64_S4096x1_S4096x64_1_0_n_n_0_1_164 e (wrapped i))
    (broadcastInDim S4096x64 ![] bcast_S_S4096x64 (constant (F := Ideal) S_ .f32 0x7FC00000#32))

/-- The squared distances between corresponding rows. -/
def rowDists (x y : FVec Ideal S4096x64 .f32) : FVec Ideal S4096 .f32 :=
  Host.reduceAdd (mulf (subf x y) (subf x y)) (constant (F := Ideal) S_ .f32 0x00000000#32) reducesTo_S4096x64_S4096_d1 h_S_

/-- The mean hinge loss of the triplets. -/
def tripletLoss (e : FVec Ideal S4096x64 .f32) (u : IVec S4096x3 32) : FVec Ideal S_ .f32 :=
  Host.divf
    (Host.reduceAdd
      (maximumf
        (addf (subf (rowDists (takeRows e (anchorsOf u)) (takeRows e (positivesOf u)))
            (rowDists (takeRows e (anchorsOf u)) (takeRows e (negativesOf u))))
          (broadcastInDim S4096 ![] bcast_S_S4096 (constant (F := Ideal) S_ .f32 0x3F800000#32)))
        (broadcastInDim S4096 ![] bcast_S_S4096 (constant (F := Ideal) S_ .f32 0x00000000#32)))
      (constant (F := Ideal) S_ .f32 0x00000000#32) reducesTo_S4096_S_d0 h_S_)
    (constant (F := Ideal) S_ .f32 0x45800000#32)

/-- The reference's first result. -/
def refLoss (e : FVec Ideal S4096x64 .f32) (t : IVec S4096 32) : FVec Ideal S_ .f32 :=
  tripletLoss e (triplets (iotaInDim S4096 32 0) (argmaxes (posDists e t)) (argmins (negDists e t)))

end Cert.ReferenceIdeal.Hand
end
-- ==== Proof.RefRun.lean ====
module

public import proofs.«01_k».proof.Defs
public import proofs.«01_k».proof.Proof.Gen.ReferenceIdeal
public import proofs.«01_k».proof.Proof.RefStaged
public import Idealize.ShloMosaic.Lib.StableHlo.RunRead
public import Idealize.ShloMosaic.Lib.Claim
public import Idealize.ShloMosaic.Adequacy
public import Idealize.ShloMosaic.Init

@[expose] public section

set_option maxRecDepth 16384

noncomputable section

namespace Cert.ReferenceIdeal.Hand

open Idealize.ShloMosaic Idealize.SL.Sem Cert.ReferenceIdeal Cert.ReferenceIdeal.Gen

/-- The reference's run leaves both of its arguments as they were. -/
theorem args_kept (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
  hlo_run

/-- The reference runs to completion, keeps its arguments and leaves no semaphore raised (it declares none). -/
theorem frame : Cert.quiescent_ReferenceIdeal := fun m g _ =>
  (θ_run Cert.ReferenceIdeal.defs _ _).mono (fun r h => ⟨h, sem_eq_zero_of_no_sems (by decide) r.2⟩) (args_kept m g)

/-- Three columns side by side. -/
def beside (a p n : IVec S4096x1 32) : IVec S4096x3 32 :=
  concatenate S4096x3 1 [⟨S4096x1, a⟩, ⟨S4096x1, p⟩, ⟨S4096x1, n⟩]
    concatenates_S4096x1_S4096x1_S4096x1_S4096x3_d1

/-- Three columns side by side, under their own name. -/
theorem beside_eq (a p n : IVec S4096x1 32) : concatenate S4096x3 1 [⟨S4096x1, a⟩, ⟨S4096x1, p⟩, ⟨S4096x1, n⟩]
    concatenates_S4096x1_S4096x1_S4096x1_S4096x3_d1 = beside a p n := rfl

/-- Equal columns side by side are equal. -/
theorem beside_congr {a p n a' p' n' : IVec S4096x1 32} (ha : a = a') (hp : p = p') (hn : n = n') :
    beside a p n = beside a' p' n' := by rw [ha, hp, hn]

open Idealize.ShloMosaic.StableHlo in
/-- What a line of operations leaves, in two steps: its first `n` operations, then the others. -/
theorem after_split {τ : Topo} {sig : RefSig} {Val : EltTy → Type} {ops : List (HloOp τ sig Val)} {V : Valuation τ sig Val}
    (n : ℕ) (b : DevRef τ sig) : after ops V b = after (ops.drop n) (upto ops V n) b := by
  unfold upto; rw [← after_append, List.take_append_drop]

set_option maxHeartbeats 400000 in
/-- The reference's run leaves the triplets' mean loss and the number of rows as its results. -/
theorem results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v56) = refLoss (m ((c.tc : Thread nD τ).loc main_arg0)) (m ((c.tc : Thread nD τ).loc main_arg1))
      ∧ r.2.mem ((c.tc : Thread nD τ).loc main_c_9) = constantI S_ 32 4096#32) := by
  refine θ_run_mono (Idealize.ShloMosaic.StableHlo.run_hlo _ _ (by hlo_seq) (by decide) (by decide) (by simp)
      (by intro _ h; (repeat (cases h with | head => rfl | tail _ h => ?_)); exact nomatch h) _ _) ?_
  intro r hr c
  refine ⟨(hr c main_v56).trans ?_, (hr c main_c_9).trans ?_⟩
  · clear hr
    refine (after_split 54 _).trans ?_
    generalize hW : StableHlo.upto _ _ 54 = W
    have h0 : W (Proc.devRef .tc main_arg0) = m ((c.tc : Thread nD τ).loc main_arg0) := by
      rw [← hW]; after_reads_simp
    have h35 : W (Proc.devRef .tc main_v35) = triplets (iotaInDim S4096 32 0) (argmaxes (posDists (m ((c.tc : Thread nD τ).loc main_arg0)) (m ((c.tc : Thread nD τ).loc main_arg1)))) (argmins (negDists (m ((c.tc : Thread nD τ).loc main_arg0)) (m ((c.tc : Thread nD τ).loc main_arg1)))) := by
      rw [← hW]
      after_reads_simp
      erw [beside_eq]
      refine beside_congr ?_ ?_ ?_
      · change StableHlo.upto _ _ _ (Proc.devRef .tc main_v32) = _
        after_reads_simp
        rfl
      · change StableHlo.upto _ _ _ (Proc.devRef .tc main_v33) = _
        after_reads_simp
        rfl
      · change StableHlo.upto _ _ _ (Proc.devRef .tc main_v34) = _
        after_reads_simp
        rfl
    clear hW
    unfold refLoss
    rw [← h35, ← h0]
    clear h35 h0
    dsimp only [List.drop]
    after_reads_simp
    simp -implicitDefEqProofs only [StableHlo.TRef.toBuf, StableHlo.TRef.ofBuf, cast_cast, cast_eq]
    generalize W (Proc.devRef .tc main_v35) = U
    generalize W (Proc.devRef .tc main_arg0) = e
    rfl
  · clear hr
    after_reads_simp

/-- The reference runs; its first result is the triplets' mean loss, its second the number of rows, and its arguments end
    unchanged. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v56) = refLoss (m ((c.tc : Thread nD τ).loc main_arg0)) (m ((c.tc : Thread nD τ).loc main_arg1))
      ∧ r.2.mem ((c.tc : Thread nD τ).loc main_c_9) = constantI S_ 32 4096#32
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (θ_run_and (results m g) (args_kept m g)) (fun _ h c => ⟨(h.1 c).1, (h.1 c).2, h.2 c⟩)

end Cert.ReferenceIdeal.Hand
end
-- ==== Proof.Consts.lean ====
module

public import Idealize.ShloMosaic.Lib.Pointwise
public import Idealize.ShloMosaic.Lib.IdealHost

/-! The float patterns both programs hold, as real numbers. -/

@[expose] public section

namespace Cert.Hand

open Idealize.ShloMosaic

/-- The pattern of `1024.0`. -/
theorem ofBits_1024 : Ideal.ofBits .f32 0x44800000#32 = ((1024 : ℝ) : EReal) := by
  simp [Ideal.ofBits, Ideal.ieee, -EReal.coe_mul]; norm_num

/-- The pattern of `-2.0`. -/
theorem ofBits_neg_two : Ideal.ofBits .f32 0xC0000000#32 = ((-2 : ℝ) : EReal) := by
  simp [Ideal.ofBits, Ideal.ieee, -EReal.coe_mul]; norm_num

/-- The pattern of `2.0`. -/
theorem ofBits_two : Ideal.ofBits .f32 0x40000000#32 = ((2 : ℝ) : EReal) := by
  simp [Ideal.ofBits, Ideal.ieee, -EReal.coe_mul]; norm_num

/-- The pattern of `2 ^ 20`. -/
theorem ofBits_gap : Ideal.ofBits .f32 0x49800000#32 = ((1048576 : ℝ) : EReal) := by
  simp [Ideal.ofBits, Ideal.ieee, -EReal.coe_mul]; norm_num

/-- The pattern of `2 ^ 18`. -/
theorem ofBits_bound : Ideal.ofBits .f32 0x48800000#32 = ((262144 : ℝ) : EReal) := by
  simp [Ideal.ofBits, Ideal.ieee, -EReal.coe_mul]; norm_num

/-- The pattern of `1.5`. -/
theorem ofBits_three_halves : Ideal.ofBits .f32 0x3FC00000#32 = ((3 / 2 : ℝ) : EReal) := by
  simp [Ideal.ofBits, Ideal.ieee, -EReal.coe_mul]; norm_num

/-- The pattern of `4095.5`. -/
theorem ofBits_rows_less_half : Ideal.ofBits .f32 0x457FF800#32 = ((8191 / 2 : ℝ) : EReal) := by
  simp [Ideal.ofBits, Ideal.ieee, -EReal.coe_mul]; norm_num

/-- The pattern of `4096.0`. -/
theorem ofBits_rows : Ideal.ofBits .f32 0x45800000#32 = ((4096 : ℝ) : EReal) := by
  simp [Ideal.ofBits, Ideal.ieee, -EReal.coe_mul]; norm_num

/-- The pattern of `-1e9`. -/
theorem ofBits_neg_big : Ideal.ofBits .f32 0xCE6E6B28#32 = ((-1000000000 : ℝ) : EReal) := by
  simp [Ideal.ofBits, Ideal.ieee, -EReal.coe_mul]; norm_num

/-- The pattern of `1e9`. -/
theorem ofBits_big : Ideal.ofBits .f32 0x4E6E6B28#32 = ((1000000000 : ℝ) : EReal) := by
  simp [Ideal.ofBits, Ideal.ieee, -EReal.coe_mul]; norm_num

/-- The pattern of minus infinity. -/
theorem ofBits_bot : Ideal.ofBits .f32 0xFF800000#32 = ⊥ := by
  simp [Ideal.ofBits, Ideal.ieee]

/-- The pattern of plus infinity. -/
theorem ofBits_top : Ideal.ofBits .f32 0x7F800000#32 = ⊤ := by
  simp [Ideal.ofBits, Ideal.ieee]

end Cert.Hand
end
-- ==== Proof.Common.lean ====
module

public import Idealize.ShloMosaic.Lib.Pointwise

/-! The mathematics both programs compute, over the reals: the squared distances, the distance to the farthest positive
and to the nearest negative of each row, and the mean hinge loss. -/

@[expose] public section

noncomputable section

namespace Cert.Hand

/-- A finite sum of reals, read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {n d : ℕ}

/-- The squared norm of row `i`. -/
def sqNorm (x : Fin n → Fin d → ℝ) (i : Fin n) : ℝ := ∑ k, x i k * x i k

/-- The squared distance of rows `i` and `j`, expanded. -/
def gap (x : Fin n → Fin d → ℝ) (i j : Fin n) : ℝ := sqNorm x i + sqNorm x j - 2 * ∑ k, x i k * x j k

/-- The expanded form is the sum of squared differences. -/
theorem gap_eq_sum (x : Fin n → Fin d → ℝ) (i j : Fin n) :
    gap x i j = ∑ k, (x i k - x j k) * (x i k - x j k) := by
  unfold gap sqNorm
  rw [Finset.mul_sum, ← Finset.sum_add_distrib, ← Finset.sum_sub_distrib]
  exact Finset.sum_congr rfl fun k _ => by ring

/-- A squared distance is not negative. -/
theorem gap_nonneg (x : Fin n → Fin d → ℝ) (i j : Fin n) : 0 ≤ gap x i j := by
  rw [gap_eq_sum]; exact Finset.sum_nonneg fun k _ => mul_self_nonneg _

/-- The distance does not depend on the order of the rows. -/
theorem gap_comm (x : Fin n → Fin d → ℝ) (i j : Fin n) : gap x i j = gap x j i := by
  rw [gap_eq_sum, gap_eq_sum]; exact Finset.sum_congr rfl fun k _ => by ring

/-- A row is at no distance from itself. -/
theorem gap_self (x : Fin n → Fin d → ℝ) (i : Fin n) : gap x i i = 0 := by
  rw [gap_eq_sum]; simp

/-- A squared distance is at most twice the sum of the squared norms. -/
theorem gap_le (x : Fin n → Fin d → ℝ) (i j : Fin n) : gap x i j ≤ 2 * (sqNorm x i + sqNorm x j) := by
  rw [gap_eq_sum]; unfold sqNorm
  rw [← Finset.sum_add_distrib, Finset.mul_sum]
  exact Finset.sum_le_sum fun k _ => by nlinarith [mul_self_nonneg (x i k + x j k)]

/-- `a` is the distance of row `i` to its farthest positive, or to row `z` when it has none. -/
def IsFar (x : Fin n → Fin d → ℝ) {α : Type} (t : Fin n → α) (z i : Fin n) (a : ℝ) : Prop :=
  ((∃ j, j ≠ i ∧ t j = t i) → (∃ j, (j ≠ i ∧ t j = t i) ∧ gap x i j = a) ∧ ∀ j, j ≠ i → t j = t i → gap x i j ≤ a) ∧
    ((¬∃ j, j ≠ i ∧ t j = t i) → a = gap x i z)

/-- `a` is the distance of row `i` to its nearest negative, or to row `z` when it has none. -/
def IsNear (x : Fin n → Fin d → ℝ) {α : Type} (t : Fin n → α) (z i : Fin n) (a : ℝ) : Prop :=
  ((∃ j, t j ≠ t i) → (∃ j, t j ≠ t i ∧ gap x i j = a) ∧ ∀ j, t j ≠ t i → a ≤ gap x i j) ∧
    ((¬∃ j, t j ≠ t i) → a = gap x i z)

/-- The farthest distance is one number. -/
theorem IsFar.unique {x : Fin n → Fin d → ℝ} {α : Type} {t : Fin n → α} {z i : Fin n} {a b : ℝ}
    (ha : IsFar x t z i a) (hb : IsFar x t z i b) : a = b := by
  by_cases h : ∃ j, j ≠ i ∧ t j = t i
  · obtain ⟨⟨j, hj, rfl⟩, hle⟩ := ha.1 h
    obtain ⟨⟨k, hk, rfl⟩, hle'⟩ := hb.1 h
    exact le_antisymm (hle' j hj.1 hj.2) (hle k hk.1 hk.2)
  · rw [ha.2 h, hb.2 h]

/-- The nearest distance is one number. -/
theorem IsNear.unique {x : Fin n → Fin d → ℝ} {α : Type} {t : Fin n → α} {z i : Fin n} {a b : ℝ}
    (ha : IsNear x t z i a) (hb : IsNear x t z i b) : a = b := by
  by_cases h : ∃ j, t j ≠ t i
  · obtain ⟨⟨j, hj, rfl⟩, hle⟩ := ha.1 h
    obtain ⟨⟨k, hk, rfl⟩, hle'⟩ := hb.1 h
    exact le_antisymm (hle k hk) (hle' j hj)
  · rw [ha.2 h, hb.2 h]

/-- The mean hinge loss from the two distances of every row. -/
def meanHinge (p q : Fin n → ℝ) (c : ℝ) : ℝ := (∑ i, max (p i - q i + 1) 0) * (1 / c)

/-- The distance with a mark of `b` added when the labels agree. -/
def marked (x : Fin n → Fin d → ℝ) {α : Type} [DecidableEq α] (t : Fin n → α) (b : ℝ) (i j : Fin n) : ℝ :=
  (if t i = t j then b else 0) + gap x i j

/-- The marked distance does not depend on the order of the rows. -/
theorem marked_comm (x : Fin n → Fin d → ℝ) {α : Type} [DecidableEq α] (t : Fin n → α) (b : ℝ) (i j : Fin n) :
    marked x t b i j = marked x t b j i := by
  unfold marked; rw [gap_comm]; simp only [eq_comm]

/-- The largest marked distance of a row with a positive, less the mark, is the farthest distance, when no distance
    exceeds the mark. -/
theorem far_of_marked {x : Fin n → Fin d → ℝ} {α : Type} [DecidableEq α] {t : Fin n → α} {b : ℝ} {z i : Fin n}
    (hb : ∀ j, gap x i j ≤ b) {a m : ℝ} (hm : ∀ j, marked x t b i j ≤ m) (hm' : ∃ j, marked x t b i j = m)
    (h : (∃ j, j ≠ i ∧ t j = t i) → a = m - b) (h' : (¬∃ j, j ≠ i ∧ t j = t i) → a = gap x i z) :
    IsFar x t z i a := by
  refine ⟨fun hp => ?_, h'⟩
  have hle : ∀ j, t j = t i → gap x i j ≤ a := fun j hj => by
    have := hm j
    simp only [marked, hj, if_true] at this
    rw [h hp]; linarith
  refine ⟨?_, fun j _ hj => hle j hj⟩
  obtain ⟨q, hq, hqt⟩ := hp
  have hqa := hle q hqt
  have hq0 := gap_nonneg x i q
  obtain ⟨j, hj⟩ := hm'
  have ha := h ⟨q, hq, hqt⟩
  by_cases ht : t j = t i
  · simp only [marked, ht, if_true] at hj
    have hja : gap x i j = a := by linarith
    by_cases hji : j = i
    · subst hji
      rw [gap_self] at hja
      exact ⟨q, ⟨hq, hqt⟩, le_antisymm hqa (by linarith)⟩
    · exact ⟨j, ⟨hji, ht⟩, hja⟩
  · have hn : ¬ t i = t j := fun e => ht e.symm
    simp only [marked, if_neg hn] at hj
    have := hb j
    exact ⟨q, ⟨hq, hqt⟩, le_antisymm hqa (by linarith)⟩

/-- The smallest marked distance of a row with a negative is the nearest distance, when no distance exceeds the mark. -/
theorem near_of_marked {x : Fin n → Fin d → ℝ} {α : Type} [DecidableEq α] {t : Fin n → α} {b : ℝ} {z i : Fin n}
    (hb : ∀ j, gap x i j ≤ b) {a m : ℝ} (hm : ∀ j, m ≤ marked x t b i j) (hm' : ∃ j, marked x t b i j = m)
    (h : (∃ j, t j ≠ t i) → a = m) (h' : (¬∃ j, t j ≠ t i) → a = gap x i z) :
    IsNear x t z i a := by
  refine ⟨fun hp => ?_, h'⟩
  have hle : ∀ j, t j ≠ t i → a ≤ gap x i j := fun j hj => by
    have := hm j
    have hn : ¬ t i = t j := fun e => hj e.symm
    simp only [marked, if_neg hn] at this
    rw [h hp]; linarith
  refine ⟨?_, hle⟩
  obtain ⟨q, hq⟩ := hp
  have hqa := hle q hq
  obtain ⟨j, hj⟩ := hm'
  have ha := h ⟨q, hq⟩
  by_cases ht : t j = t i
  · simp only [marked, ht, if_true] at hj
    have := gap_nonneg x i j
    have := hb q
    exact ⟨q, hq, le_antisymm (by linarith) hqa⟩
  · have hn : ¬ t i = t j := fun e => ht e.symm
    simp only [marked, if_neg hn] at hj
    exact ⟨j, ht, by linarith⟩

/-- The number of rows with row `i`'s label exceeds one and a half exactly when another row has it. -/
theorem count_gt {α : Type} [DecidableEq α] (t : Fin n → α) (i : Fin n) :
    (3 / 2 : ℝ) < ∑ j, (if t i = t j then (1 : ℝ) else 0) ↔ ∃ j, j ≠ i ∧ t j = t i := by
  rw [Finset.sum_boole]
  constructor
  · intro h
    have h2 : 1 < (Finset.univ.filter fun j => t i = t j).card := by
      by_contra hc
      have : ((Finset.univ.filter fun j => t i = t j).card : ℝ) ≤ 1 := by exact_mod_cast not_lt.mp hc
      linarith
    obtain ⟨j, hj, hji⟩ := Finset.exists_mem_ne h2 i
    exact ⟨j, hji, ((Finset.mem_filter.mp hj).2).symm⟩
  · rintro ⟨j, hji, hj⟩
    have h2 : 1 < (Finset.univ.filter fun j => t i = t j).card :=
      Finset.one_lt_card.mpr ⟨j, by simp [hj], i, by simp, hji⟩
    have : (2 : ℝ) ≤ ((Finset.univ.filter fun j => t i = t j).card : ℝ) := by exact_mod_cast h2
    linarith

/-- The number of rows with row `i`'s label falls half short of all exactly when some row has another. -/
theorem count_lt {α : Type} [DecidableEq α] (t : Fin n → α) (i : Fin n) :
    ∑ j, (if t i = t j then (1 : ℝ) else 0) < (n : ℝ) - 1 / 2 ↔ ∃ j, t j ≠ t i := by
  rw [Finset.sum_boole]
  constructor
  · intro h
    by_contra hc
    push Not at hc
    have : (Finset.univ.filter fun j => t i = t j) = Finset.univ := by
      ext j; simp [hc j]
    rw [this] at h; simp at h; linarith
  · rintro ⟨j, hj⟩
    have h2 : (Finset.univ.filter fun j => t i = t j).card < (Finset.univ : Finset (Fin n)).card :=
      Finset.card_lt_card ⟨Finset.filter_subset _ _, fun hs => hj ((Finset.mem_filter.mp (hs (Finset.mem_univ j))).2).symm⟩
    rw [Finset.card_univ, Fintype.card_fin] at h2
    have : ((Finset.univ.filter fun j => t i = t j).card : ℝ) + 1 ≤ n := by exact_mod_cast h2
    linarith

end Cert.Hand
end
-- ==== Proof.Pick.lean ====
module

public import proofs.«01_k».proof.Proof.RefStaged
public import proofs.«01_k».proof.Proof.Consts
public import Idealize.ShloMosaic.PureOps.Ideal.Laws
public import Idealize.ShloMosaic.Lib.WordCmp

/-! The reference's index of a row's largest entry and of its smallest: an index of such an entry, the first one. -/

@[expose] public section

set_option maxRecDepth 16384

noncomputable section

namespace Cert.ReferenceIdeal.Hand

open Idealize.ShloMosaic Idealize.SL.Sem Cert.ReferenceIdeal Cert.ReferenceIdeal.Gen Cert.Hand

/-- A left fold by an operation that keeps the better of its two arguments ends at one of the values and at none worse
    than another. -/
theorem foldl_best {α : Type} (R : α → α → Prop) (hr : ∀ a, R a a) (htr : ∀ a b c, R a b → R b c → R a c) (f : α → α → α)
    (hf : ∀ a b, (f a b = a ∨ f a b = b) ∧ R (f a b) a ∧ R (f a b) b) :
    ∀ (L : List α) (a : α), L.foldl f a ∈ a :: L ∧ ∀ p ∈ a :: L, R (L.foldl f a) p
  | [], a => ⟨List.mem_singleton.mpr rfl, fun p hp => by rw [List.mem_singleton.mp hp]; exact hr a⟩
  | b :: L, a => by
    obtain ⟨hm, hb⟩ := foldl_best R hr htr f hf L (f a b)
    obtain ⟨hc, ha', hb'⟩ := hf a b
    rw [List.foldl_cons]
    refine ⟨?_, fun p hp => ?_⟩
    · rcases List.mem_cons.mp hm with h | h
      · rw [h]; rcases hc with h' | h' <;> rw [h'] <;> simp
      · exact List.mem_cons_of_mem _ (List.mem_cons_of_mem _ h)
    · have h0 := hb (f a b) List.mem_cons_self
      rcases List.mem_cons.mp hp with rfl | hp
      · exact htr _ _ _ h0 ha'
      rcases List.mem_cons.mp hp with rfl | hp
      · exact htr _ _ _ h0 hb'
      · exact hb p (List.mem_cons_of_mem _ hp)

/-- The row a matrix index belongs to. -/
theorem drop_row (i : Fin 4096) (y : S4096x4096.Idx) :
    reducesTo_S4096x4096_S4096_d1.drop y = ix1 i ↔ y = ix2 i (y 1) := by
  have h0 : (reducesTo_S4096x4096_S4096_d1.drop y 0).val = (y 0).val :=
    Shape.ReducesTo.drop_apply_val_of_eq reducesTo_S4096x4096_S4096_d1 y 0 0
  constructor
  · intro h
    rw [h] at h0
    funext a
    refine Fin.ext ?_
    match a with
    | ⟨0, _⟩ => exact h0.symm
    | ⟨1, _⟩ => rfl
  · intro h
    funext a
    refine Fin.ext ?_
    match a with
    | ⟨0, _⟩ => rw [show (⟨0, _⟩ : Fin S4096.rank) = 0 from rfl, h0, h]; rfl

/-- A column number, at an index. -/
theorem column_number (y : S4096x4096.Idx) : iotaInDim S4096x4096 32 1 y = BitVec.ofNat 32 (y 1).val := rfl

/-- The pairs a row's reduction folds over: its entries with their column numbers. -/
theorem mem_fiber (v : FVec Ideal S4096x4096 .f32) (i : Fin 4096) (p : EReal × BitVec 32) :
    p ∈ Host.argReduceFiber v (iotaInDim S4096x4096 32 1) reducesTo_S4096x4096_S4096_d1 (ix1 i) ↔
      ∃ k : Fin 4096, p = (v (ix2 i k), BitVec.ofNat 32 k.val) := by
  unfold Host.argReduceFiber
  generalize S4096x4096.rowMajor = f
  simp only [List.mem_map, List.mem_filter, List.mem_finRange, true_and, decide_eq_true_eq, drop_row, column_number]
  constructor
  · rintro ⟨n, hn, rfl⟩
    exact ⟨(f.symm n) 1, Prod.ext (congrArg v hn) rfl⟩
  · rintro ⟨k, rfl⟩
    exact ⟨f (ix2 i k), by rw [Equiv.symm_apply_apply]; rfl, by rw [Equiv.symm_apply_apply]; rfl⟩

/-- One pair is at least as good a maximum as another: larger, or equal and at no later index. -/
def AtLeast (r p : EReal × BitVec 32) : Prop := p.1 < r.1 ∨ (p.1 = r.1 ∧ r.2.toInt ≤ p.2.toInt)

/-- One pair is at least as good a minimum as another. -/
def AtMost (r p : EReal × BitVec 32) : Prop := r.1 < p.1 ∨ (p.1 = r.1 ∧ r.2.toInt ≤ p.2.toInt)

/-- The maximum's reducer keeps the better pair. -/
theorem argmax_step (a b : EReal × BitVec 32) :
    (reducer_argmax_f32_i32 (F := Ideal) a b = a ∨ reducer_argmax_f32_i32 (F := Ideal) a b = b) ∧
      AtLeast (reducer_argmax_f32_i32 (F := Ideal) a b) a ∧ AtLeast (reducer_argmax_f32_i32 (F := Ideal) a b) b := by
  obtain ⟨a1, a2⟩ := a
  obtain ⟨b1, b2⟩ := b
  unfold reducer_argmax_f32_i32 AtLeast
  simp only [Ideal.cmpf_def, Ideal.cmp, WordCmp.cmpi_slt_eq, Scalar.select]
  rcases lt_trichotomy a1 b1 with h | h | h
  · simp [h, h.ne, h.not_gt, IntOp.ori, IntOp.andi]
  · subst h
    by_cases h2 : a2.toInt < b2.toInt <;> simp [h2, IntOp.ori, IntOp.andi] <;> omega
  · simp [h, h.ne', IntOp.ori, IntOp.andi]

/-- The minimum's reducer keeps the better pair. -/
theorem argmin_step (a b : EReal × BitVec 32) :
    (reducer_argmin_f32_i32 (F := Ideal) a b = a ∨ reducer_argmin_f32_i32 (F := Ideal) a b = b) ∧
      AtMost (reducer_argmin_f32_i32 (F := Ideal) a b) a ∧ AtMost (reducer_argmin_f32_i32 (F := Ideal) a b) b := by
  obtain ⟨a1, a2⟩ := a
  obtain ⟨b1, b2⟩ := b
  unfold reducer_argmin_f32_i32 AtMost
  simp only [Ideal.cmpf_def, Ideal.cmp, WordCmp.cmpi_slt_eq, Scalar.select]
  rcases lt_trichotomy a1 b1 with h | h | h
  · simp [h, h.ne, IntOp.ori, IntOp.andi]
  · subst h
    by_cases h2 : a2.toInt < b2.toInt <;> simp [h2, IntOp.ori, IntOp.andi] <;> omega
  · simp [h, h.ne', h.not_gt, IntOp.ori, IntOp.andi]

/-- A column number read as a signed word. -/
theorem toInt_col (k : Fin 4096) : (BitVec.ofNat 32 k.val).toInt = k.val := by
  rw [BitVec.toInt_ofNat']
  have := k.isLt
  simp [Int.bmod]; omega

/-- A pair is as good a maximum as itself. -/
theorem argmax_refl (a : EReal × BitVec 32) : AtLeast a a := Or.inr ⟨rfl, le_rfl⟩

/-- Being at least as good a maximum is transitive. -/
theorem argmax_trans (a b c : EReal × BitVec 32) (h : AtLeast a b) (h' : AtLeast b c) : AtLeast a c := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩

/-- A pair is as good a minimum as itself. -/
theorem argmin_refl (a : EReal × BitVec 32) : AtMost a a := Or.inr ⟨rfl, le_rfl⟩

/-- Being at least as good a minimum is transitive. -/
theorem argmin_trans (a b c : EReal × BitVec 32) (h : AtMost a b) (h' : AtMost b c) : AtMost a c := by
  rcases h with h | ⟨h, hi⟩ <;> rcases h' with h' | ⟨h', hi'⟩
  · exact Or.inl (h.trans h')
  · exact Or.inl (h' ▸ h)
  · exact Or.inl (h ▸ h')
  · exact Or.inr ⟨h'.trans h, hi.trans hi'⟩

/-- A fold that keeps the largest of the pairs ends at one of them, the first of the largest. -/
theorem fold_argmax (L : List (EReal × BitVec 32)) (g : Fin 4096 → EReal)
    (hL : ∀ p, p ∈ L ↔ ∃ k : Fin 4096, p = (g k, BitVec.ofNat 32 k.val)) (hg : ∀ k, g k ≠ ⊥)
    (r : EReal × BitVec 32) (hr : L.foldl (fun a b => reducer_argmax_f32_i32 (F := Ideal) a b) (⊥, 0#32) = r) :
    ∃ k : Fin 4096, r.2 = BitVec.ofNat 32 k.val ∧
      ∀ j, g j ≤ g k ∧ (g j = g k → k ≤ j) := by
  obtain ⟨hm, hb⟩ := foldl_best AtLeast argmax_refl argmax_trans (reducer_argmax_f32_i32 (F := Ideal)) argmax_step L (⊥, 0#32)
  rw [hr] at hm hb
  have hj : ∀ j : Fin 4096, AtLeast r (g j, BitVec.ofNat 32 j.val) := fun j =>
    hb _ (List.mem_cons_of_mem _ ((hL _).mpr ⟨j, rfl⟩))
  rcases List.mem_cons.mp hm with h | h
  · exfalso
    subst h
    rcases hj 0 with h' | ⟨h', _⟩
    · exact not_lt_bot h'
    · exact hg 0 h'
  · obtain ⟨k, rfl⟩ := (hL _).mp h
    refine ⟨k, rfl, fun j => ?_⟩
    rcases hj j with h' | ⟨h', hi⟩
    · exact ⟨h'.le, fun he => absurd he h'.ne⟩
    · have hi' : (BitVec.ofNat 32 k.val).toInt ≤ (BitVec.ofNat 32 j.val).toInt := hi
      rw [toInt_col, toInt_col] at hi'
      exact ⟨h'.le, fun _ => Fin.le_def.mpr (by exact_mod_cast hi')⟩

/-- A fold that keeps the smallest of the pairs ends at one of them, the first of the smallest. -/
theorem fold_argmin (L : List (EReal × BitVec 32)) (g : Fin 4096 → EReal)
    (hL : ∀ p, p ∈ L ↔ ∃ k : Fin 4096, p = (g k, BitVec.ofNat 32 k.val)) (hg : ∀ k, g k ≠ ⊤)
    (r : EReal × BitVec 32) (hr : L.foldl (fun a b => reducer_argmin_f32_i32 (F := Ideal) a b) (⊤, 0#32) = r) :
    ∃ k : Fin 4096, r.2 = BitVec.ofNat 32 k.val ∧
      ∀ j, g k ≤ g j ∧ (g j = g k → k ≤ j) := by
  obtain ⟨hm, hb⟩ := foldl_best AtMost argmin_refl argmin_trans (reducer_argmin_f32_i32 (F := Ideal)) argmin_step L (⊤, 0#32)
  rw [hr] at hm hb
  have hj : ∀ j : Fin 4096, AtMost r (g j, BitVec.ofNat 32 j.val) := fun j =>
    hb _ (List.mem_cons_of_mem _ ((hL _).mpr ⟨j, rfl⟩))
  rcases List.mem_cons.mp hm with h | h
  · exfalso
    subst h
    rcases hj 0 with h' | ⟨h', _⟩
    · exact not_top_lt h'
    · exact hg 0 h'
  · obtain ⟨k, rfl⟩ := (hL _).mp h
    refine ⟨k, rfl, fun j => ?_⟩
    rcases hj j with h' | ⟨h', hi⟩
    · exact ⟨h'.le, fun he => absurd he h'.ne'⟩
    · have hi' : (BitVec.ofNat 32 k.val).toInt ≤ (BitVec.ofNat 32 j.val).toInt := hi
      rw [toInt_col, toInt_col] at hi'
      exact ⟨h'.ge, fun _ => Fin.le_def.mpr (by exact_mod_cast hi')⟩

/-- The index of every row's largest entry is the second half of a fold over the row's pairs. -/
theorem argmaxes_pairs (v : FVec Ideal S4096x4096 .f32) :
    ∃ R : S4096.Idx → EReal × BitVec 32, argmaxes v = (fun j => (R j).2) ∧
      ∀ j, (Host.argReduceFiber v (iotaInDim S4096x4096 32 1) reducesTo_S4096x4096_S4096_d1 j).foldl
        (fun a b => reducer_argmax_f32_i32 (F := Ideal) a b) (⊥, 0#32) = R j := by
  have h0 : (constant (F := Ideal) S_ .f32 0xFF800000#32 (Shape.Idx.first h_S_), constantI S_ 32 0#32 (Shape.Idx.first h_S_)) =
    ((⊥, 0#32) : EReal × BitVec 32) := Prod.ext ofBits_bot rfl
  refine ⟨Host.argReduce reducer_argmax_f32_i32 v (iotaInDim S4096x4096 32 1)
    (constant (F := Ideal) S_ .f32 0xFF800000#32) (constantI S_ 32 0#32) reducesTo_S4096x4096_S4096_d1 h_S_, rfl, fun j => ?_⟩
  have h := (congrFun (Ideal.argReduce_eq_reduce2 (reducer_argmax_f32_i32 (F := Ideal)) v (iotaInDim S4096x4096 32 1)
    (constant (F := Ideal) S_ .f32 0xFF800000#32) (constantI S_ 32 0#32) reducesTo_S4096x4096_S4096_d1 h_S_) j).trans
    (Host.reduce2_eq_foldl_fiber _ _ _ _ _ _ _ j)
  rw [h0] at h
  exact h.symm

/-- The index of a row's largest entry: of one of them, and of the first. -/
theorem argmaxes_apply (v : FVec Ideal S4096x4096 .f32) (i : Fin 4096) (g : Fin 4096 → EReal)
    (hv : ∀ k, v (ix2 i k) = g k) (hg : ∀ k, g k ≠ ⊥) :
    ∃ k : Fin 4096, argmaxes v (ix1 i) = BitVec.ofNat 32 k.val ∧ ∀ j, g j ≤ g k ∧ (g j = g k → k ≤ j) := by
  obtain ⟨R, hA, hR⟩ := argmaxes_pairs v
  have hL := mem_fiber v i
  simp only [hv] at hL
  rw [hA]
  exact fold_argmax _ g hL hg (R (ix1 i)) (hR (ix1 i))

/-- The index of every row's smallest entry is the second half of a fold over the row's pairs. -/
theorem argmins_pairs (v : FVec Ideal S4096x4096 .f32) :
    ∃ R : S4096.Idx → EReal × BitVec 32, argmins v = (fun j => (R j).2) ∧
      ∀ j, (Host.argReduceFiber v (iotaInDim S4096x4096 32 1) reducesTo_S4096x4096_S4096_d1 j).foldl
        (fun a b => reducer_argmin_f32_i32 (F := Ideal) a b) (⊤, 0#32) = R j := by
  have h0 : (constant (F := Ideal) S_ .f32 0x7F800000#32 (Shape.Idx.first h_S_), constantI S_ 32 0#32 (Shape.Idx.first h_S_)) =
    ((⊤, 0#32) : EReal × BitVec 32) := Prod.ext ofBits_top rfl
  refine ⟨Host.argReduce reducer_argmin_f32_i32 v (iotaInDim S4096x4096 32 1)
    (constant (F := Ideal) S_ .f32 0x7F800000#32) (constantI S_ 32 0#32) reducesTo_S4096x4096_S4096_d1 h_S_, rfl, fun j => ?_⟩
  have h := (congrFun (Ideal.argReduce_eq_reduce2 (reducer_argmin_f32_i32 (F := Ideal)) v (iotaInDim S4096x4096 32 1)
    (constant (F := Ideal) S_ .f32 0x7F800000#32) (constantI S_ 32 0#32) reducesTo_S4096x4096_S4096_d1 h_S_) j).trans
    (Host.reduce2_eq_foldl_fiber _ _ _ _ _ _ _ j)
  rw [h0] at h
  exact h.symm

/-- The index of a row's smallest entry: of one of them, and of the first. -/
theorem argmins_apply (v : FVec Ideal S4096x4096 .f32) (i : Fin 4096) (g : Fin 4096 → EReal)
    (hv : ∀ k, v (ix2 i k) = g k) (hg : ∀ k, g k ≠ ⊤) :
    ∃ k : Fin 4096, argmins v (ix1 i) = BitVec.ofNat 32 k.val ∧ ∀ j, g k ≤ g j ∧ (g j = g k → k ≤ j) := by
  obtain ⟨R, hA, hR⟩ := argmins_pairs v
  have hL := mem_fiber v i
  simp only [hv] at hL
  rw [hA]
  exact fold_argmin _ g hL hg (R (ix1 i)) (hR (ix1 i))

end Cert.ReferenceIdeal.Hand
end
-- ==== Proof.RefValue.lean ====
module

public import proofs.«01_k».proof.Proof.RefStaged
public import proofs.«01_k».proof.Proof.Consts
public import proofs.«01_k».proof.Proof.Common
public import proofs.«01_k».proof.Proof.Pick
public import Idealize.ShloMosaic.Lib.Routing.Ops

/-! The reference's arrays entry by entry, and its loss as the mean hinge of the farthest and nearest distances. -/

@[expose] public section

set_option maxRecDepth 16384

noncomputable section

namespace Cert.ReferenceIdeal.Hand

open Idealize.ShloMosaic Idealize.SL.Sem Cert.ReferenceIdeal Cert.ReferenceIdeal.Gen Cert.Hand

/-- A row number as a word tells the row. -/
theorem row_word (i j : Fin 4096) : BitVec.ofNat 32 i.val = BitVec.ofNat 32 j.val ↔ i = j := by
  refine ⟨fun h => Fin.ext ?_, fun h => h ▸ rfl⟩
  have h' := congrArg BitVec.toNat h
  simp only [BitVec.toNat_ofNat] at h'
  omega

section
variable {x : Fin 4096 → Fin 64 → ℝ} {e : FVec Ideal S4096x64 .f32} (he : ∀ i k, e (ix2 i k) = (x i k : EReal))
  (t : IVec S4096 32)
include he

/-- The squared norms. -/
theorem sqNorms_apply (i : Fin 4096) : sqNorms e (ix1 i) = (sqNorm x i : EReal) := by
  pointwise [sqNorms, he]
  simp only [← EReal.coe_mul, ← coe_sum, ← EReal.coe_zero, ← EReal.coe_add]
  unfold sqNorm
  rfl

/-- The squared distances. -/
theorem dists_apply (i j : Fin 4096) : dists e (ix2 i j) = (gap x i j : EReal) := by
  pointwise [dists, alongRows, alongCols, square, sqNorms_apply he, he, ofBits_two]
  simp only [← EReal.coe_mul, ← coe_sum, ← EReal.coe_add, ← EReal.coe_sub]
  exact max_eq_left (by exact_mod_cast gap_nonneg x i j)

/-- The distances to the positives, and minus a thousand million elsewhere. -/
theorem posDists_apply (i j : Fin 4096) : posDists e t (ix2 i j) =
    ((if j ≠ i ∧ t (ix1 j) = t (ix1 i) then gap x i j else -1000000000 : ℝ) : EReal) := by
  pointwise [posDists, sameLabel, sameRow, alongRows, alongCols, square, ofBits_neg_big]
  rw [dists_apply he, WordCmp.cmpi_eq_eq, WordCmp.cmpi_eq_eq]
  have hs : IntOp.addi (BitVec.ofNat 32 i.val) 0#32 = BitVec.ofNat 32 j.val ↔ j = i := by
    rw [show IntOp.addi (BitVec.ofNat 32 i.val) 0#32 = BitVec.ofNat 32 i.val from BitVec.add_zero _, row_word, eq_comm]
  simp only [hs]
  by_cases h : j = i <;> by_cases h' : t (ix1 i) = t (ix1 j) <;> simp [h, h', Ne.symm, eq_comm, IntOp.andi, Scalar.select]

/-- The distances to the negatives, and a thousand million elsewhere. -/
theorem negDists_apply (i j : Fin 4096) : negDists e t (ix2 i j) =
    ((if t (ix1 j) ≠ t (ix1 i) then gap x i j else 1000000000 : ℝ) : EReal) := by
  pointwise [negDists, sameLabel, alongRows, alongCols, square, ofBits_big]
  rw [dists_apply he, WordCmp.cmpi_eq_eq]
  by_cases h' : t (ix1 i) = t (ix1 j)
  · simp [h', Scalar.select]
  · simp [h', Ne.symm h', Scalar.select]

/-- The index of the largest of the positives' distances is that of the farthest positive. -/
theorem argmaxes_far (i : Fin 4096) :
    ∃ k : Fin 4096, argmaxes (posDists e t) (ix1 i) = BitVec.ofNat 32 k.val ∧
      IsFar x (fun i => t (ix1 i)) 0 i (gap x i k) := by
  obtain ⟨k, hk, hb⟩ := argmaxes_apply (posDists e t) i _ (posDists_apply he t i) (fun _ => EReal.coe_ne_bot _)
  refine ⟨k, hk, ?_⟩
  simp only [EReal.coe_le_coe_iff, EReal.coe_eq_coe_iff] at hb
  refine ⟨fun ⟨j, hj⟩ => ?_, fun hn => ?_⟩
  · have hkm : k ≠ i ∧ t (ix1 k) = t (ix1 i) := by
      by_contra hc
      have h := (hb j).1
      rw [if_pos hj, if_neg hc] at h
      linarith [gap_nonneg x i j]
    refine ⟨⟨k, hkm, rfl⟩, fun j hj ht => ?_⟩
    have h := (hb j).1
    rwa [if_pos ⟨hj, ht⟩, if_pos hkm] at h
  · have hf : ∀ j : Fin 4096, ¬(j ≠ i ∧ t (ix1 j) = t (ix1 i)) := fun j hj => hn ⟨j, hj⟩
    have h := (hb 0).2
    rw [if_neg (hf 0), if_neg (hf k)] at h
    rw [Fin.le_zero_iff.mp (h rfl)]

/-- The index of the smallest of the negatives' distances is that of the nearest negative. -/
theorem argmins_near (hx : ∀ i, sqNorm x i ≤ 262144) (i : Fin 4096) :
    ∃ k : Fin 4096, argmins (negDists e t) (ix1 i) = BitVec.ofNat 32 k.val ∧
      IsNear x (fun i => t (ix1 i)) 0 i (gap x i k) := by
  obtain ⟨k, hk, hb⟩ := argmins_apply (negDists e t) i _ (negDists_apply he t i) (fun _ => EReal.coe_ne_top _)
  refine ⟨k, hk, ?_⟩
  simp only [EReal.coe_le_coe_iff, EReal.coe_eq_coe_iff] at hb
  refine ⟨fun ⟨j, hj⟩ => ?_, fun hn => ?_⟩
  · have hkm : t (ix1 k) ≠ t (ix1 i) := by
      by_contra hc
      have h := (hb j).1
      rw [if_pos hj, if_neg (not_not.mpr hc)] at h
      linarith [gap_le x i j, hx i, hx j]
    refine ⟨⟨k, hkm, rfl⟩, fun j ht => ?_⟩
    have h := (hb j).1
    rwa [if_pos ht, if_pos hkm] at h
  · have hf : ∀ j : Fin 4096, ¬(t (ix1 j) ≠ t (ix1 i)) := fun j hj => hn ⟨j, hj⟩
    have h := (hb 0).2
    rw [if_neg (hf 0), if_neg (hf k)] at h
    rw [Fin.le_zero_iff.mp (h rfl)]

end

/-- The triplets' first column. -/
theorem anchorsOf_apply (a p n : IVec S4096 32) (i : Fin 4096) : anchorsOf (triplets a p n) (ix1 i) = a (ix1 i) := by
  pointwise [anchorsOf, triplets, asColumn]

/-- The triplets' second column. -/
theorem positivesOf_apply (a p n : IVec S4096 32) (i : Fin 4096) : positivesOf (triplets a p n) (ix1 i) = p (ix1 i) := by
  pointwise [positivesOf, triplets, asColumn]

/-- The triplets' third column. -/
theorem negativesOf_apply (a p n : IVec S4096 32) (i : Fin 4096) : negativesOf (triplets a p n) (ix1 i) = n (ix1 i) := by
  pointwise [negativesOf, triplets, asColumn]

/-- A row number read as a signed word. -/
theorem row_toInt (b : Fin 4096) : (BitVec.ofNat 32 b.val).toInt = b.val := toInt_col b

/-- An index of a row is not changed by counting negative ones from the end. -/
theorem wrapped_apply (a : IVec S4096 32) (i b : Fin 4096) (z : Fin 1) (ha : a (ix1 i) = BitVec.ofNat 32 b.val) :
    wrapped a (ix2 i z) = BitVec.ofNat 32 b.val := by
  pointwise [wrapped, asColumn]
  rw [ha, WordCmp.cmpi_slt_eq]
  have h : ¬ ((b.val : Int) < 0) := by omega
  rw [row_toInt, show (0#32 : BitVec 32).toInt = 0 from rfl, decide_eq_false h]
  rfl

/-- An index of a row is one of a row. -/
theorem inRows_apply (a : IVec S4096x1 32) (i b : Fin 4096) (ha : ∀ z, a (ix2 i z) = BitVec.ofNat 32 b.val) :
    inRows a (ix1 i) = 1#1 := by
  pointwise [inRows, ha]
  rw [WordCmp.cmpi_sge_eq, WordCmp.cmpi_sle_eq]
  have h : (b.val : Int) ≤ 4095 := by have := b.isLt; omega
  simp [row_toInt, h, IntOp.andi]

/-- The row at an index of a row. -/
theorem takeRows_apply (e : FVec Ideal S4096x64 .f32) (a : IVec S4096 32) (i b : Fin 4096) (k : Fin 64)
    (ha : a (ix1 i) = BitVec.ofNat 32 b.val) : takeRows e a (ix2 i k) = e (ix2 b k) := by
  pointwise [takeRows]
  rw [inRows_apply (wrapped a) i b (fun z => wrapped_apply a i b z ha)]
  exact Routing.gather_row gather_S4096x64_S4096x1_S4096x64_1_0_n_n_0_1_164 rfl rfl rfl rfl rfl e (wrapped a) i k b
    (wrapped_apply a i b 0 ha) (by norm_num)

/-- The squared distances between the rows at two indices. -/
theorem rowDists_apply {x : Fin 4096 → Fin 64 → ℝ} {e : FVec Ideal S4096x64 .f32} (he : ∀ i k, e (ix2 i k) = (x i k : EReal))
    (a p : IVec S4096 32) (i b c : Fin 4096) (ha : a (ix1 i) = BitVec.ofNat 32 b.val) (hp : p (ix1 i) = BitVec.ofNat 32 c.val) :
    rowDists (takeRows e a) (takeRows e p) (ix1 i) = (gap x b c : EReal) := by
  have h1 := fun k => (takeRows_apply e a i b k ha).trans (he b k)
  have h2 := fun k => (takeRows_apply e p i c k hp).trans (he c k)
  generalize takeRows e a = u at h1 ⊢
  generalize takeRows e p = w at h2 ⊢
  pointwise [rowDists, h1, h2]
  simp only [← EReal.coe_mul, ← coe_sum, ← EReal.coe_sub, ← EReal.coe_zero, ← EReal.coe_add]
  rw [gap_eq_sum]

/-- The mean hinge loss of triplets whose two distances are `P` and `Q`. -/
theorem tripletLoss_apply (e : FVec Ideal S4096x64 .f32) (u : IVec S4096x3 32) (P Q : Fin 4096 → ℝ)
    (hP : ∀ i, rowDists (takeRows e (anchorsOf u)) (takeRows e (positivesOf u)) (ix1 i) = (P i : EReal))
    (hQ : ∀ i, rowDists (takeRows e (anchorsOf u)) (takeRows e (negativesOf u)) (ix1 i) = (Q i : EReal)) :
    tripletLoss e u = fun _ => (meanHinge P Q 4096 : EReal) := by
  funext j
  unfold tripletLoss
  generalize rowDists (takeRows e (anchorsOf u)) (takeRows e (positivesOf u)) = p at hP ⊢
  generalize rowDists (takeRows e (anchorsOf u)) (takeRows e (negativesOf u)) = q at hQ ⊢
  pointwise [hP, hQ, ofBits_rows]
  rw [Ideal.div_coe (by norm_num : (4096 : ℝ) ≠ 0), ← EReal.coe_zero, ← EReal.coe_one]
  simp only [← EReal.coe_sub, ← EReal.coe_add, ← EReal.coe_strictMono.monotone.map_max, ← coe_sum]
  rw [← EReal.coe_mul]
  rfl

/-- The reference's loss is the mean hinge of the farthest positives' and nearest negatives' distances. -/
theorem ref_value {x : Fin 4096 → Fin 64 → ℝ} {e : FVec Ideal S4096x64 .f32} (he : ∀ i k, e (ix2 i k) = (x i k : EReal))
    (t : IVec S4096 32) (hx : ∀ i, sqNorm x i ≤ 262144) :
    ∃ P Q : Fin 4096 → ℝ, (∀ i, IsFar x (fun i => t (ix1 i)) 0 i (P i)) ∧ (∀ i, IsNear x (fun i => t (ix1 i)) 0 i (Q i)) ∧
      refLoss e t = fun _ => (meanHinge P Q 4096 : EReal) := by
  choose p hp hP using argmaxes_far he t
  choose q hq hQ using argmins_near he t hx
  refine ⟨fun i => gap x i (p i), fun i => gap x i (q i), hP, hQ, ?_⟩
  unfold refLoss
  generalize argmaxes (posDists e t) = u at hp ⊢
  generalize argmins (negDists e t) = w at hq ⊢
  have ha : ∀ i : Fin 4096, anchorsOf (triplets (iotaInDim S4096 32 0) u w) (ix1 i) = BitVec.ofNat 32 i.val := fun i =>
    anchorsOf_apply _ _ _ i
  exact tripletLoss_apply e _ _ _
    (fun i => rowDists_apply he _ _ i i (p i) (ha i) ((positivesOf_apply _ _ _ i).trans (hp i)))
    (fun i => rowDists_apply he _ _ i i (q i) (ha i) ((negativesOf_apply _ _ _ i).trans (hq i)))

end Cert.ReferenceIdeal.Hand
end
-- ==== Proof.Staged.lean ====
module

public import proofs.«01_k».proof.Defs
public import proofs.«01_k».proof.Proof.Gen.KernelIdeal.Skeleton
public import Idealize.ShloMosaic.Lib.Pipeline.FrameBody

/-!
The kernel's body in stages, over any float instance: the two packed operands, the product of a pair of row blocks,
the running row maxima and minima, one block's share of the loss, and the mean.
-/

@[expose] public section

set_option maxRecDepth 16384

noncomputable section

namespace Cert.KernelIdeal.Hand

open Idealize.ShloMosaic Idealize.SL.Sem Cert.KernelIdeal Cert.KernelIdeal.Gen

variable {F : FTy → Type} [FloatOps F]

/-- The product of row block `x` of the left operand with row block `y` of the right one. -/
def blockProd (x y : Vec F S512x192 .bf16) : FVec F S512x512 .f32 :=
  matmul dot_S512x192_S512x192_S512x512_1_1_0_0_n_n none x y (constant S512x512 .f32 0x00000000#32)

/-- The largest entry of each row. -/
def rowMax (M : FVec F S512x512 .f32) : FVec F S512 .f32 :=
  multiReduction .maximumf [1] S512 M 0xFF800000#32 reduces_S512x512_S512 (.inl rfl) rfl

/-- The smallest entry of each row. -/
def rowMin (M : FVec F S512x512 .f32) : FVec F S512 .f32 :=
  multiReduction .minimumf [1] S512 M 0x7F800000#32 reduces_S512x512_S512 (.inl rfl) rfl

/-- The largest entry of each column. -/
def colMax (M : FVec F S512x512 .f32) : FVec F S512 .f32 :=
  multiReduction .maximumf [0] S512 M 0xFF800000#32 reduces_S512x512_S512_2 (.inl rfl) rfl

/-- The smallest entry of each column. -/
def colMin (M : FVec F S512x512 .f32) : FVec F S512 .f32 :=
  multiReduction .minimumf [0] S512 M 0x7F800000#32 reduces_S512x512_S512_2 (.inl rfl) rfl

/-- The first row. -/
def firstRow (M : FVec F S512x512 .f32) : FVec F S512 .f32 :=
  shapeCast S512 (extractStridedSlice S1x512 ![0, 0] M slices_S512x512_o0_0_S1x512) shapeCasts_S1x512_S512

/-- What block pair `(k, l)` contributes to the row maxima of block `k`: the column maxima of the product below the
    diagonal, the row maxima of the product on and above it. -/
def maxPart (a b : Fin 8 → Vec F S512x192 .bf16) (k l : Fin 8) : FVec F S512 .f32 :=
  if l < k then colMax (blockProd (a l) (b k)) else rowMax (blockProd (a k) (b l))

/-- What block pair `(k, l)` contributes to the row minima of block `k`. -/
def minPart (a b : Fin 8 → Vec F S512x192 .bf16) (k l : Fin 8) : FVec F S512 .f32 :=
  if l < k then colMin (blockProd (a l) (b k)) else rowMin (blockProd (a k) (b l))

/-- Eight values combined from the left. -/
def chain {α : Type} (op : α → α → α) (f : Fin 8 → α) : α :=
  op (op (op (op (op (op (op (f 0) (f 1)) (f 2)) (f 3)) (f 4)) (f 5)) (f 6)) (f 7)

/-- The row maxima of block `k`. -/
def maxRow (a b : Fin 8 → Vec F S512x192 .bf16) (k : Fin 8) : FVec F S512 .f32 := chain maximumf (maxPart a b k)

/-- The row minima of block `k`. -/
def minRow (a b : Fin 8 → Vec F S512x192 .bf16) (k : Fin 8) : FVec F S512 .f32 := chain minimumf (minPart a b k)

/-- The 512 entries of a column that begin at row `o`. -/
def piece (o : ℕ) (h : S4096x1.Slices ![o, 0] S512x1) (v : FVec F S4096x1 .f32) : FVec F S512 .f32 :=
  shapeCast S512 (extractStridedSlice S512x1 ![o, 0] v h) shapeCasts_S512x1_S512

/-- The hinge losses of the rows of one block: `mx`, `mn` are the row maxima and minima, `d` the products with row 0,
    `cnt` the sizes of the classes and `corr` what the packing adds to a product with row 0. -/
def hinge (mx mn d cnt corr : FVec F S512 .f32) : FVec F S512 .f32 :=
  maximumf
    (addf
      (subf
        (select (cmpf .ogt cnt (broadcast S512 (Scalar.ofBits .f32 0x3FC00000#32)))
          (subf mx (broadcast S512 (Scalar.ofBits .f32 0x49800000#32))) (subf d corr))
        (select (cmpf .olt cnt (broadcast S512 (Scalar.ofBits .f32 0x457FF800#32))) mn (subf d corr)))
      (broadcast S512 (Scalar.ofBits .f32 0x3F800000#32)))
    (broadcast S512 (Scalar.ofBits .f32 0x00000000#32))

/-- The sum of 512 values. -/
def sum512 (v : FVec F S512 .f32) : F .f32 :=
  extractAt ![0, 0] (shapeCast S1x1 (multiReduction .add [1] S1 (shapeCast S1x512 v shapeCasts_S512_S1x512) 0x00000000#32
    reduces_S1x512_S1 (.inl rfl) rfl) shapeCasts_S1_S1x1) inpos_S1x1_p0_0

/-- The summed hinge losses of block `k`, which begins at row `o`. -/
def blockLoss (a b : Fin 8 → Vec F S512x192 .bf16) (cnt corr : FVec F S4096x1 .f32) (k : Fin 8) (o : ℕ)
    (h : S4096x1.Slices ![o, 0] S512x1) : F .f32 :=
  sum512 (hinge (maxRow a b k) (minRow a b k) (firstRow (blockProd (a 0) (b k))) (piece o h cnt) (piece o h corr))

/-- The eight blocks' losses. -/
def losses (a b : Fin 8 → Vec F S512x192 .bf16) (cnt corr : FVec F S4096x1 .f32) : Fin 8 → F .f32
  | 0 => blockLoss a b cnt corr 0 0 slices_S4096x1_o0_0_S512x1
  | 1 => blockLoss a b cnt corr 1 512 slices_S4096x1_o512_0_S512x1
  | 2 => blockLoss a b cnt corr 2 1024 slices_S4096x1_o1024_0_S512x1
  | 3 => blockLoss a b cnt corr 3 1536 slices_S4096x1_o1536_0_S512x1
  | 4 => blockLoss a b cnt corr 4 2048 slices_S4096x1_o2048_0_S512x1
  | 5 => blockLoss a b cnt corr 5 2560 slices_S4096x1_o2560_0_S512x1
  | 6 => blockLoss a b cnt corr 6 3072 slices_S4096x1_o3072_0_S512x1
  | 7 => blockLoss a b cnt corr 7 3584 slices_S4096x1_o3584_0_S512x1

/-- The kernel's mean loss from the operands' row blocks, the class sizes and the row-0 corrections. -/
def meanLoss (a b : Fin 8 → Vec F S512x192 .bf16) (cnt corr : FVec F S4096x1 .f32) : F .f32 :=
  let s := losses a b cnt corr
  Scalar.divf
    (Scalar.addf (Scalar.addf (Scalar.addf (Scalar.addf (Scalar.addf (Scalar.addf (Scalar.addf (Scalar.addf
      (Scalar.ofBits .f32 0x00000000#32) (s 0)) (s 1)) (s 2)) (s 3)) (s 4)) (s 5)) (s 6)) (s 7))
    (Scalar.ofBits .f32 0x45800000#32)

/-- What the body stores in the left operand's buffer, last store first. -/
def leftPieces (e : Vec F S4096x64 .f32) (t : Vec F S4096x1 .i32) : List (View.Piece (Elt F) S4096x192 .bf16) :=
  [⟨Rect.unit (s := S4096x192) ![0, 128] S4096x64.size inb_S4096x192_S4096x64_0_128, k0_pay11 e⟩,
   ⟨Rect.unit (s := S4096x192) ![0, 102] S4096x26.size inb_S4096x192_S4096x26_0_102, k0_pay10⟩,
   ⟨Rect.unit (s := S4096x192) ![0, 101] S4096x1.size inb_S4096x192_S4096x1_0_101, k0_pay9 e⟩,
   ⟨Rect.unit (s := S4096x192) ![0, 100] S4096x1.size inb_S4096x192_S4096x1_0_100, k0_pay8⟩,
   ⟨Rect.unit (s := S4096x192) ![0, 0] S4096x128.size inb_S4096x192_S4096x128_0_0, k0_pay7 t⟩]

/-- What the body stores in the right operand's buffer, last store first. -/
def rightPieces (e : Vec F S4096x64 .f32) (t : Vec F S4096x1 .i32) : List (View.Piece (Elt F) S4096x192 .bf16) :=
  [⟨Rect.unit (s := S4096x192) ![0, 128] S4096x64.size inb_S4096x192_S4096x64_0_128, k0_pay16 e⟩,
   ⟨Rect.unit (s := S4096x192) ![0, 102] S4096x26.size inb_S4096x192_S4096x26_0_102, k0_pay15 k0_pay6⟩,
   ⟨Rect.unit (s := S4096x192) ![0, 101] S4096x1.size inb_S4096x192_S4096x1_0_101, k0_pay14 k0_pay5⟩,
   ⟨Rect.unit (s := S4096x192) ![0, 100] S4096x1.size inb_S4096x192_S4096x1_0_100, k0_pay13 (k0_pay4 e)⟩,
   ⟨Rect.unit (s := S4096x192) ![0, 0] S4096x128.size inb_S4096x192_S4096x128_0_0, k0_pay12 (k0_pay3 t)⟩]

/-- The left operand. -/
def leftOp (e : Vec F S4096x64 .f32) (t : Vec F S4096x1 .i32) : Vec F S4096x192 .bf16 := View.canon (leftPieces e t)

/-- The right operand. -/
def rightOp (e : Vec F S4096x64 .f32) (t : Vec F S4096x1 .i32) : Vec F S4096x192 .bf16 := View.canon (rightPieces e t)

/-- The 512 rows of an operand that begin at row `o`. -/
def rowBlock (M : Vec F S4096x192 .bf16) (o : ℕ) (h : ∀ a, ![o, 0] a + S512x192.size a ≤ S4096x192.size a) :
    Vec F S512x192 .bf16 :=
  fun j => M ((Rect.unit (s := S4096x192) ![o, 0] S512x192.size h).toLoadRect.idx j)

/-- The eight row blocks of an operand. -/
def blockOf (M : Vec F S4096x192 .bf16) : Fin 8 → Vec F S512x192 .bf16
  | 0 => rowBlock M 0 inb_S4096x192_S512x192_0_0
  | 1 => rowBlock M 512 inb_S4096x192_S512x192_512_0
  | 2 => rowBlock M 1024 inb_S4096x192_S512x192_1024_0
  | 3 => rowBlock M 1536 inb_S4096x192_S512x192_1536_0
  | 4 => rowBlock M 2048 inb_S4096x192_S512x192_2048_0
  | 5 => rowBlock M 2560 inb_S4096x192_S512x192_2560_0
  | 6 => rowBlock M 3072 inb_S4096x192_S512x192_3072_0
  | 7 => rowBlock M 3584 inb_S4096x192_S512x192_3584_0

end Cert.KernelIdeal.Hand
end
-- ==== Proof.Outs.lean ====
module

public import proofs.«01_k».proof.Defs
public import proofs.«01_k».proof.Proof.Gen.KernelIdeal.Frame
public import proofs.«01_k».proof.Proof.Staged
public import Idealize.ShloMosaic.Lib.Claim
public import Idealize.ShloMosaic.Lib.ValueIdx
public import Idealize.ShloMosaic.Lib.Pipeline.ValueKit.Basic

@[expose] public section

set_option maxRecDepth 16384

noncomputable section

namespace Cert.KernelIdeal.Hand

open Idealize.ShloMosaic Idealize.SL.Sem Cert.KernelIdeal Cert.KernelIdeal.Gen

variable {F : FTy → Type} [FloatOps F]
variable (m : (ℓ : Loc nD τ sig) → Buf (Elt F) ℓ)

/-- The first row's label. -/
def firstLabel (t : Vec F S4096x1 .i32) : Vec F S1x1 .i32 :=
  fun j => t ((Rect.unit (s := S4096x1) ![0, 0] S1x1.size inb_S4096x1_S1x1_0_0).toLoadRect.idx j)

/-- What the body leaves in the output's buffer, from the two blocks it reads. -/
def stored (e : Vec F S4096x64 .f32) (t : Vec F S4096x1 .i32) : Vec F S1x1x1 .f32 :=
  broadcast S1x1x1 (meanLoss (blockOf (leftOp e t)) (blockOf (rightOp e t)) (k0_pay17 (k0_pay2 t))
    (k0_pay18 (k0_pay1 t) (firstLabel t)))

set_option maxHeartbeats 400000 in
theorem out_eq (c : Dev nD) (arg0 : Memref sig .tc .vmem S4096x64 .f32) (harg0 : arg0.IsWhole) (arg1 : Memref sig .tc .vmem S4096x1 .i32) (harg1 : arg1.IsWhole) (arg2 : Memref sig .tc .vmem S1x1x1 .f32) (harg2 : arg2.IsWhole) (arg3 : Memref sig .tc .vmem S4096x192 .bf16) (harg3 : arg3.IsWhole) (arg4 : Memref sig .tc .vmem S4096x192 .bf16) (harg4 : arg4.IsWhole)
    (e : Vec F S4096x64 .f32) (t : Vec F S4096x1 .i32) :
    out0_A_2 c arg0 harg0 arg1 harg1 arg2 harg2 arg3 harg3 arg4 harg4 e t = stored e t := by
  unfold out0_A_2
  rw [View.read_writes_eq_canon _ _ _ (cover0_A_2 c _ _ _ _ _ _ _ _ _ _ _ _)]
  unfold kernelRun0_A
  dsimp only
  sl_unfold_words
  have hE : View.readAt (Elt F) arg0.view (Rect.unit (s := S4096x64) ![0, 0] S4096x64.size inb_S4096x64_S4096x64_0_0).toLoadRect (harg0.unread e) = e := by
    rw [View.readAt_eq_ld, harg0.read_unread]; exact View.ld_unit_lit (S := S4096x64) inb_S4096x64_S4096x64_0_0 _ (by decide)
  have hT : View.readAt (Elt F) arg1.view (Rect.unit (s := S4096x1) ![0, 0] S4096x1.size inb_S4096x1_S4096x1_0_0).toLoadRect (harg1.unread t) = t := by
    rw [View.readAt_eq_ld, harg1.read_unread]; exact View.ld_unit_lit (S := S4096x1) inb_S4096x1_S4096x1_0_0 _ (by decide)
  have h0 : View.readAt (Elt F) arg1.view (Rect.unit (s := S4096x1) ![0, 0] S1x1.size inb_S4096x1_S1x1_0_0).toLoadRect (harg1.unread t)
      = firstLabel t := by
    rw [View.readAt_eq_ld, harg1.read_unread]; rfl
  rw [hE, hT, h0]
  have hA : ∀ o h, arg3.view.readCov (leftPieces e t) (Rect.unit (s := S4096x192) ![o, 0] S512x192.size h).toLoadRect
      = rowBlock (leftOp e t) o h := fun o h => by
    rw [View.readCov_eq_canon']; unfold rowBlock leftOp; rfl
  have hB : ∀ o h, arg4.view.readCov (rightPieces e t) (Rect.unit (s := S4096x192) ![o, 0] S512x192.size h).toLoadRect
      = rowBlock (rightOp e t) o h := fun o h => by
    rw [View.readCov_eq_canon']; unfold rowBlock rightOp; rfl
  unfold stored
  generalize k0_pay17 (F := F) (k0_pay2 t) = cnt
  generalize k0_pay18 (F := F) (k0_pay1 t) (firstLabel t) = corr
  generalize leftOp e t = A at hA ⊢
  generalize rightOp e t = B at hB ⊢
  unfold leftPieces at hA
  unfold rightPieces at hB
  simp only [hA, hB]
  refine (View.canon_cons_unit_lit (S := S1x1x1) inb_S1x1x1_S1x1x1_0_0_0 _ _ (by decide)).trans ?_
  rfl

end Cert.KernelIdeal.Hand
end
-- ==== Proof.KernelRun.lean ====
module

public import proofs.«01_k».proof.Defs
public import proofs.«01_k».proof.Proof.Gen.KernelIdeal.Frame
public import proofs.«01_k».proof.Proof.Outs
public import Idealize.ShloMosaic.Lib.Claim
public import Idealize.ShloMosaic.Lib.ValueIdx
public import Idealize.ShloMosaic.Lib.Pipeline.ValueKit

/-! The kernel program's run: what its two results hold, in terms of its two arguments. -/

@[expose] public section

set_option maxRecDepth 16384

noncomputable section

namespace Cert.KernelIdeal.Hand

open Idealize.ShloMosaic Idealize.SL.Sem Cert.KernelIdeal Cert.KernelIdeal.Gen
open Idealize.ShloMosaic.Pipeline (Dat Cfg Window)

variable {F : FTy → Type} [FloatOps F]
variable (m : (ℓ : Loc nD τ sig) → Buf (Elt F) ℓ)

/-- The column of labels the kernel reads is the labels reshaped. -/
def column (t : Vec F S4096 .i32) : Vec F S4096x1 .i32 := shapeCast S4096x1 t shapeCasts_S4096_S4096x1

/-- Before the region, the second window's array is the column of labels. -/
theorem entry_labels (c : Dev nD) : V m c main_v0 = column (m ((c.tc : Thread nD τ).loc main_arg1)) := by
  unfold_abbrev_sides
  simp only [hostOps0, List.flatten_cons, List.flatten_nil, List.append_nil]
  after_results
  rfl

set_option maxHeartbeats 400000 in
/-- The first input's block is the embeddings. -/
theorem block_embeddings (c : Dev nD) (t : Fin cfg0.N) : iblk m c 0 t = m ((c.tc : Thread nD τ).loc main_arg0) := by
  have h0 : ∀ a, win0_0.index t a = 0 := fun a => rfl
  have h : ∀ y : (win0_0.xblock (grid0.coords t)).Idx, (win0_0.rect t).emb y = y := fun y => by
    funext a; exact Fin.ext (Window.rect_emb_val_of_index_zero win0_0 t a (h0 a) y)
  funext y
  exact (congrFun (V_main_arg0 m c) _).trans (congrArg (m ((c.tc : Thread nD τ).loc main_arg0)) (h y))

set_option maxHeartbeats 400000 in
/-- The second input's block is the column of labels. -/
theorem block_labels (c : Dev nD) (t : Fin cfg0.N) : iblk m c 1 t = column (m ((c.tc : Thread nD τ).loc main_arg1)) := by
  have h0 : ∀ a, win0_1.index t a = 0 := fun a => rfl
  have h : ∀ y : (win0_1.xblock (grid0.coords t)).Idx, (win0_1.rect t).emb y = y := fun y => by
    funext a; exact Fin.ext (Window.rect_emb_val_of_index_zero win0_1 t a (h0 a) y)
  funext y
  exact (congrFun (entry_labels m c) _).trans (congrArg (column (m ((c.tc : Thread nD τ).loc main_arg1))) (h y))

set_option maxHeartbeats 400000 in
/-- The output's array after the run. -/
theorem output_array (c : Dev nD) : (dats m 0 c).arrAt 2 (cfgs 0).N
    = stored (m ((c.tc : Thread nD τ).loc main_arg0)) (column (m ((c.tc : Thread nD τ).loc main_arg1))) := by
  refine (dats m 0 c).arrAt_eq_of_covers 2 _ (by decide +kernel) fun t hf y => ?_
  blk_simp
  rw [after0_2]
  unfold outsAt0
  rw [out_eq, block_embeddings, block_labels]
  rfl

/-- The mean loss the kernel computes from the embeddings and the labels. -/
def kernelLoss (e : Vec F S4096x64 .f32) (t : Vec F S4096 .i32) : F .f32 :=
  meanLoss (blockOf (leftOp e (column t))) (blockOf (rightOp e (column t))) (k0_pay17 (k0_pay2 (column t)))
    (k0_pay18 (k0_pay1 (column t)) (firstLabel (column t)))

set_option maxHeartbeats 400000 in
/-- The first result after the run. -/
theorem result_loss (c : Dev nD) : Pipeline.afterTail₀ cfgs (dats m) 0 (V0 m) [hostOps1] c main_v2
    = fun _ => kernelLoss (m ((c.tc : Thread nD τ).loc main_arg0)) (m ((c.tc : Thread nD τ).loc main_arg1)) := by
  unfold Pipeline.afterTail₀
  simp only [hostOps1, List.flatten_cons, List.flatten_nil, List.append_nil]
  after_results
  have hw : Pipeline.withArrays (cfgs 0).spec c (V0 m c) (fun w => (dats m 0 c).arrAt w (cfgs 0).N) (Proc.devRef .tc main_v1)
      = stored (m ((c.tc : Thread nD τ).loc main_arg0)) (column (m ((c.tc : Thread nD τ).loc main_arg1))) :=
    (Pipeline.withArrays_arr spec0 winFacts0.arr_inj c (V0 m c) _ 2).trans (output_array m c)
  rw [hw]
  rfl

/-- The second result after the run. -/
theorem result_count (c : Dev nD) : Pipeline.afterTail₀ cfgs (dats m) 0 (V0 m) [hostOps1] c main_c = constantI S_ 32 4096#32 := by
  unfold Pipeline.afterTail₀
  simp only [hostOps1, List.flatten_cons, List.flatten_nil, List.append_nil]
  after_results

variable (ρ : Dev nD → PrngReg)

/-- The kernel program runs; its first result is the mean loss, its second the number of rows, and its arguments end unchanged. -/
theorem run_value : θ_run defs (onTc (τ := τ) (main (F := F))) ⟨m, fun _ => 0, ρ⟩ (fun r => ∀ c : Dev nD,
      r.2.mem ((c.tc : Thread nD τ).loc main_v2) = (fun _ => kernelLoss (m ((c.tc : Thread nD τ).loc main_arg0)) (m ((c.tc : Thread nD τ).loc main_arg1)))
      ∧ r.2.mem ((c.tc : Thread nD τ).loc main_c) = constantI S_ 32 4096#32
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v2 (Pipeline.mem_restRefs_of main_v2 (by decide) (by decide))).trans (result_loss m c),
     ((h.1 c).2 main_c (Pipeline.mem_restRefs_of main_c (by decide) (by decide))).trans (result_count m c),
     h.2 c⟩) (θ_run_and (run_main m ρ) (unchanged m ρ))

end Cert.KernelIdeal.Hand
end
-- ==== Proof.Operands.lean ====
module

public import proofs.«01_k».proof.Proof.Staged
public import proofs.«01_k».proof.Proof.KernelRun
public import proofs.«01_k».proof.Proof.Consts
public import proofs.«01_k».proof.Proof.Common

/-! The kernel's two packed operands, entry by entry, at the ideal instance. -/

@[expose] public section

set_option maxRecDepth 16384

noncomputable section

namespace Cert.KernelIdeal.Hand

open Idealize.ShloMosaic Idealize.SL.Sem Cert.KernelIdeal Cert.KernelIdeal.Gen Cert.Hand

/-- A column of stored lanes is read at an index it covers. -/
theorem lanes_hit {o : ℕ} {sz : Fin 2 → ℕ} (h : ∀ a, ![0, o] a + sz a ≤ S4096x192.size a) (v : (⟨2, sz⟩ : Shape).Idx → Elt Ideal .bf16)
    (L : List (View.Piece (Elt Ideal) S4096x192 .bf16)) (i : Fin 4096) (k : Fin 192) (y : (⟨2, sz⟩ : Shape).Idx)
    (hy0 : (y 0).val = i.val) (hy1 : o + (y 1).val = k.val) :
    View.canon (⟨Rect.unit (s := S4096x192) ![0, o] sz h, v⟩ :: L) (ix2 i k) = v y := by
  rw [← View.canon_cons_emb (Rect.unit (s := S4096x192) ![0, o] sz h) v L y]
  congr 1
  funext a
  refine Fin.ext ?_
  rw [Rect.emb_apply]
  fin_cases a
  · simp [hy0]
  · simp [← hy1]

/-- A column of stored lanes is passed over at an index off it. -/
theorem lanes_miss {o : ℕ} {sz : Fin 2 → ℕ} (h : ∀ a, ![0, o] a + sz a ≤ S4096x192.size a)
    (v : (⟨2, sz⟩ : Shape).Idx → Elt Ideal .bf16) (L : List (View.Piece (Elt Ideal) S4096x192 .bf16)) (i : Fin 4096)
    (k : Fin 192) (hk : k.val < o ∨ o + sz 1 ≤ k.val) :
    View.canon (⟨Rect.unit (s := S4096x192) ![0, o] sz h, v⟩ :: L) (ix2 i k) = View.canon L (ix2 i k) := by
  refine View.canon_cons_of_not_mem _ L fun hm => ?_
  have := (Rect.mem_set_unit (inb := h)).mp hm 1
  simp at this
  omega

/-- A choice made on the equality of two words is a choice made on the equality. -/
theorem select_eq {α : Type} {w : ℕ} (x y : BitVec w) (a b : α) :
    Scalar.select (IntOp.cmpi .eq x y) a b = if x = y then a else b := by
  rw [WordCmp.cmpi_eq_eq]; by_cases h : x = y <;> simp [h, Scalar.select]

/-- The one-hot labels. -/
theorem onehot_apply (t : Vec Ideal S4096 .i32) (i : Fin 4096) (k : Fin 128) :
    k0_pay2 (F := Ideal) (column t) (ix2 i k) = (((if t (ix1 i) = BitVec.ofNat 32 k.val then 1 else 0 : ℝ)) : EReal) := by
  pointwise [k0_pay2, k0_pay1, column]
  change (((BitVec.setWidth 32 (IntOp.cmpi .eq (t (ix1 i)) (BitVec.ofNat 32 k.val))).toInt : ℝ) : EReal) = _
  rw [WordCmp.cmpi_eq_eq]
  by_cases h : t (ix1 i) = BitVec.ofNat 32 k.val <;> simp [h]

/-- The one-hot labels, scaled. -/
theorem scaled_apply (t : Vec Ideal S4096 .i32) (i : Fin 4096) (k : Fin 128) :
    k0_pay3 (F := Ideal) (column t) (ix2 i k) =
      (((if t (ix1 i) = BitVec.ofNat 32 k.val then 1024 else 0 : ℝ)) : EReal) := by
  pointwise [k0_pay3, onehot_apply, ofBits_1024]
  rw [← EReal.coe_mul]; split_ifs <;> simp

variable {x : Fin 4096 → Fin 64 → ℝ} {e : Vec Ideal S4096x64 .f32} (he : ∀ i k, e (ix2 i k) = (x i k : EReal))
include he

/-- The squared norms. -/
theorem norms_apply (i : Fin 4096) (k : Fin 1) : k0_pay4 (F := Ideal) e (ix2 i k) = (sqNorm x i : EReal) := by
  pointwise [k0_pay4, he]
  simp only [← EReal.coe_mul, ← coe_sum]; rfl

/-- The embeddings, times minus two. -/
theorem twice_apply (i : Fin 4096) (k : Fin 64) : k0_pay11 (F := Ideal) e (ix2 i k) = ((x i k * (-2) : ℝ) : EReal) := by
  pointwise [k0_pay11, he, ofBits_neg_two]
  rw [EReal.coe_mul]

/-- Row `i` of the left operand, lane by lane. -/
def leftRow (x : Fin 4096 → Fin 64 → ℝ) (t : Vec Ideal S4096 .i32) (i : Fin 4096) (k : Fin 192) : ℝ :=
  if h : 128 ≤ k.val then x i ⟨k.val - 128, by omega⟩ * (-2)
  else if 102 ≤ k.val then 0 else if k.val = 101 then sqNorm x i else if k.val = 100 then 1
  else if t (ix1 i) = BitVec.ofNat 32 k.val then 1024 else 0

/-- Row `i` of the right operand, lane by lane. -/
def rightRow (x : Fin 4096 → Fin 64 → ℝ) (t : Vec Ideal S4096 .i32) (i : Fin 4096) (k : Fin 192) : ℝ :=
  if h : 128 ≤ k.val then x i ⟨k.val - 128, by omega⟩
  else if 102 ≤ k.val then 0 else if k.val = 101 then 1 else if k.val = 100 then sqNorm x i
  else if t (ix1 i) = BitVec.ofNat 32 k.val then 1024 else 0

/-- The left operand's entries. -/
theorem leftOp_apply (t : Vec Ideal S4096 .i32) (i : Fin 4096) (k : Fin 192) :
    leftOp (F := Ideal) e (column t) (ix2 i k) = (leftRow x t i k : EReal) := by
  unfold leftOp leftPieces leftRow
  by_cases h1 : 128 ≤ k.val
  · rw [dif_pos h1, lanes_hit _ _ _ i k (ix2 i ⟨k.val - 128, by omega⟩) rfl (by simp; omega), twice_apply he]
  rw [dif_neg h1, lanes_miss _ _ _ _ _ (by left; omega)]
  by_cases h2 : 102 ≤ k.val
  · rw [if_pos h2, lanes_hit _ _ _ i k (ix2 i ⟨k.val - 102, by omega⟩) rfl (by simp; omega)]
    pointwise [k0_pay10, k0_pay6]
    rfl
  rw [if_neg h2, lanes_miss _ _ _ _ _ (by left; omega)]
  by_cases h3 : k.val = 101
  · rw [if_pos h3, lanes_hit _ _ _ i k (ix2 i 0) rfl (by simp; omega)]
    pointwise [k0_pay9, norms_apply he]
  rw [if_neg h3, lanes_miss _ _ _ _ _ (by left; omega)]
  by_cases h4 : k.val = 100
  · rw [if_pos h4, lanes_hit _ _ _ i k (ix2 i 0) rfl (by simp; omega)]
    pointwise [k0_pay8, k0_pay5]
    rfl
  rw [if_neg h4, lanes_miss _ _ _ _ _ (by left; omega)]
  rw [lanes_hit _ _ _ i k (ix2 i ⟨k.val, by omega⟩) rfl (by simp)]
  pointwise [k0_pay7, scaled_apply]

/-- The right operand's entries. -/
theorem rightOp_apply (t : Vec Ideal S4096 .i32) (i : Fin 4096) (k : Fin 192) :
    rightOp (F := Ideal) e (column t) (ix2 i k) = (rightRow x t i k : EReal) := by
  unfold rightOp rightPieces rightRow
  by_cases h1 : 128 ≤ k.val
  · rw [dif_pos h1, lanes_hit _ _ _ i k (ix2 i ⟨k.val - 128, by omega⟩) rfl (by simp; omega)]
    pointwise [k0_pay16, he]
  rw [dif_neg h1, lanes_miss _ _ _ _ _ (by left; omega)]
  by_cases h2 : 102 ≤ k.val
  · rw [if_pos h2, lanes_hit _ _ _ i k (ix2 i ⟨k.val - 102, by omega⟩) rfl (by simp; omega)]
    pointwise [k0_pay15, k0_pay6]
    rfl
  rw [if_neg h2, lanes_miss _ _ _ _ _ (by left; omega)]
  by_cases h3 : k.val = 101
  · rw [if_pos h3, lanes_hit _ _ _ i k (ix2 i 0) rfl (by simp; omega)]
    pointwise [k0_pay14, k0_pay5]
    rfl
  rw [if_neg h3, lanes_miss _ _ _ _ _ (by left; omega)]
  by_cases h4 : k.val = 100
  · rw [if_pos h4, lanes_hit _ _ _ i k (ix2 i 0) rfl (by simp; omega)]
    pointwise [k0_pay13, norms_apply he]
  rw [if_neg h4, lanes_miss _ _ _ _ _ (by left; omega)]
  rw [lanes_hit _ _ _ i k (ix2 i ⟨k.val, by omega⟩) rfl (by simp)]
  pointwise [k0_pay12, scaled_apply]

omit he in
/-- A product of two one-hot rows counts whether the labels agree. -/
theorem sum_onehot {N : ℕ} {t : Vec Ideal S4096 .i32} (hN : N ≤ 4096) (ht : ∀ i, (t (ix1 i)).toNat < N) (i j : Fin 4096) (c : ℝ) :
    ∑ k : Fin N, ((if t (ix1 i) = BitVec.ofNat 32 k.val then c else 0) *
      (if t (ix1 j) = BitVec.ofNat 32 k.val then c else 0)) = if t (ix1 i) = t (ix1 j) then c * c else 0 := by
  have hk : ∀ k : Fin N, t (ix1 i) = BitVec.ofNat 32 k.val ↔ k = ⟨(t (ix1 i)).toNat, ht i⟩ := fun k => by
    rw [← BitVec.toNat_inj, BitVec.toNat_ofNat, Nat.mod_eq_of_lt (by omega), Fin.ext_iff]
    exact eq_comm
  simp only [hk, ite_mul, zero_mul, Finset.sum_ite_eq', Finset.mem_univ, if_true]
  simp only [BitVec.ofNat_toNat, BitVec.setWidth_eq, mul_ite, mul_zero, eq_comm]

omit he in
/-- The rows' product is the marked distance. -/
theorem sum_rows {t : Vec Ideal S4096 .i32} (ht : ∀ i, (t (ix1 i)).toNat < 100) (i j : Fin 4096) :
    ∑ k : Fin 192, leftRow x t i k * rightRow x t j k = marked x (fun i => t (ix1 i)) 1048576 i j := by
  rw [Fin.sum_univ_add (a := 128) (b := 64), Fin.sum_univ_add (a := 100) (b := 28), Fin.sum_univ_add (a := 2) (b := 26)]
  have h0 : ∑ k : Fin 100, leftRow x t i (Fin.castAdd 64 (Fin.castAdd 28 k)) * rightRow x t j (Fin.castAdd 64 (Fin.castAdd 28 k))
      = if t (ix1 i) = t (ix1 j) then 1048576 else 0 := by
    rw [show (1048576 : ℝ) = 1024 * 1024 by norm_num, ← sum_onehot (by norm_num) ht i j 1024]
    refine Finset.sum_congr rfl fun k _ => ?_
    have hk := k.isLt
    have g1 : ¬ 128 ≤ k.val := by omega
    have g2 : ¬ 102 ≤ k.val := by omega
    have g3 : ¬ k.val = 101 := by omega
    have g4 : ¬ k.val = 100 := by omega
    simp only [leftRow, rightRow, Fin.val_castAdd, g1, g2, g3, g4, dite_false, if_false]
  have h1 : ∑ k : Fin 2, leftRow x t i (Fin.castAdd 64 (Fin.natAdd 100 (Fin.castAdd 26 k))) *
      rightRow x t j (Fin.castAdd 64 (Fin.natAdd 100 (Fin.castAdd 26 k))) = sqNorm x j + sqNorm x i := by
    rw [Fin.sum_univ_two]; simp [leftRow, rightRow]
  have h2 : ∑ k : Fin 26, leftRow x t i (Fin.castAdd 64 (Fin.natAdd 100 (Fin.natAdd 2 k))) *
      rightRow x t j (Fin.castAdd 64 (Fin.natAdd 100 (Fin.natAdd 2 k))) = 0 := by
    refine Finset.sum_eq_zero fun k _ => ?_
    have hk := k.isLt
    simp only [leftRow, Fin.val_castAdd, Fin.val_natAdd]
    rw [dif_neg (by omega), if_pos (by omega), zero_mul]
  have h3 : ∑ k : Fin 64, leftRow x t i (Fin.natAdd 128 k) * rightRow x t j (Fin.natAdd 128 k)
      = -(2 * ∑ k, x i k * x j k) := by
    rw [Finset.mul_sum, ← Finset.sum_neg_distrib]
    refine Finset.sum_congr rfl fun k _ => ?_
    simp [leftRow, rightRow]; ring
  rw [h0, h1, h2, h3]
  unfold marked gap; ring

/-- The packed operands' product is the marked distance. -/
theorem product_apply {t : Vec Ideal S4096 .i32} (ht : ∀ i, (t (ix1 i)).toNat < 100) (i j : Fin 4096) :
    ∑ k : Fin 192, leftOp (F := Ideal) e (column t) (ix2 i k) * rightOp (F := Ideal) e (column t) (ix2 j k) =
      (marked x (fun i => t (ix1 i)) 1048576 i j : EReal) := by
  simp only [leftOp_apply he, rightOp_apply he, ← EReal.coe_mul, ← coe_sum, sum_rows ht]

omit he in
/-- The class sizes. -/
theorem counts_apply {t : Vec Ideal S4096 .i32} (ht : ∀ i, (t (ix1 i)).toNat < 100) (i : Fin 4096) (k : Fin 1) :
    k0_pay17 (F := Ideal) (k0_pay2 (column t)) (ix2 i k) =
      ((∑ j : Fin 4096, (if t (ix1 i) = t (ix1 j) then (1 : ℝ) else 0) : ℝ) : EReal) := by
  pointwise [k0_pay17, onehot_apply]
  simp only [← EReal.coe_mul, ← coe_sum]
  congr 1
  simp only [Finset.mul_sum]
  rw [Finset.sum_comm]
  refine Finset.sum_congr rfl fun j _ => ?_
  rw [sum_onehot (by norm_num) (fun i => lt_trans (ht i) (by norm_num)) i j 1, mul_one]

omit he in
/-- What the packing adds to a row's product with the first row. -/
theorem corrections_apply (t : Vec Ideal S4096 .i32) (i : Fin 4096) (k : Fin 1) :
    k0_pay18 (F := Ideal) (k0_pay1 (F := Ideal) (column t)) (firstLabel (F := Ideal) (column t)) (ix2 i k) =
      (((if t (ix1 i) = t (ix1 0) then 1048576 else 0 : ℝ)) : EReal) := by
  pointwise [k0_pay18, k0_pay1, firstLabel, column, ofBits_gap]
  rw [select_eq]; split_ifs <;> simp

end Cert.KernelIdeal.Hand
end
-- ==== Proof.Extremes.lean ====
module

public import proofs.«01_k».proof.Proof.Operands

/-! The products of row blocks, and the largest and smallest product of every row, at the ideal instance. -/

@[expose] public section

set_option maxRecDepth 16384

noncomputable section

namespace Cert.KernelIdeal.Hand

open Idealize.ShloMosaic Idealize.SL.Sem Cert.KernelIdeal Cert.KernelIdeal.Gen Cert.Hand

/-- Row `p` of block `k`. -/
def rowAt (k : Fin 8) (p : Fin 512) : Fin 4096 := ⟨k.val * 512 + p.val, by omega⟩

/-- Rows of an operand, entry by entry. -/
theorem rowBlock_apply (M : Vec Ideal S4096x192 .bf16) (o : ℕ) (h) (p : Fin 512) (q : Fin 192) (r : Fin 4096)
    (hr : r.val = o + p.val) : rowBlock M o h (ix2 p q) = M (ix2 r q) := by
  refine congrArg M (funext fun a => Fin.ext ?_)
  fin_cases a
  · simp [LoadRect.idx, Rect.toLoadRect, hr]
  · simp [LoadRect.idx, Rect.toLoadRect]

/-- An operand's row block, entry by entry. -/
theorem blockOf_apply (M : Vec Ideal S4096x192 .bf16) (k : Fin 8) (p : Fin 512) (q : Fin 192) :
    blockOf M k (ix2 p q) = M (ix2 (rowAt k p) q) := by
  fin_cases k <;> exact rowBlock_apply M _ _ p q _ (by simp [rowAt])

/-- The largest of finitely many values, folded from the bottom. -/
theorem isGreatest_fold {n : ℕ} [NeZero n] (g : Fin n → EReal) :
    IsGreatest (Set.range g) (Finset.univ.fold max ⊥ g) := by
  change IsGreatest (Set.range g) (Finset.univ.sup g)
  constructor
  · obtain ⟨k, _, hk⟩ := Finset.exists_mem_eq_sup Finset.univ ⟨0, Finset.mem_univ _⟩ g
    exact ⟨k, hk.symm⟩
  · rintro _ ⟨k, rfl⟩
    exact Finset.le_sup (Finset.mem_univ k)

/-- The smallest of finitely many values, folded from the top. -/
theorem isLeast_fold {n : ℕ} [NeZero n] (g : Fin n → EReal) :
    IsLeast (Set.range g) (Finset.univ.fold min ⊤ g) := by
  change IsLeast (Set.range g) (Finset.univ.inf g)
  constructor
  · obtain ⟨k, _, hk⟩ := Finset.exists_mem_eq_inf Finset.univ ⟨0, Finset.mem_univ _⟩ g
    exact ⟨k, hk.symm⟩
  · rintro _ ⟨k, rfl⟩
    exact Finset.inf_le (Finset.mem_univ k)

/-- Eight sets joined one by one. -/
theorem iUnion_eight (S : Fin 8 → Set EReal) : (⋃ l, S l) = S 0 ∪ S 1 ∪ S 2 ∪ S 3 ∪ S 4 ∪ S 5 ∪ S 6 ∪ S 7 := by
  ext v
  simp only [Set.mem_iUnion, Set.mem_union, Fin.exists_fin_succ, Fin.exists_fin_zero_pi, IsEmpty.exists_iff, or_false, or_assoc]
  rfl

/-- The largest of eight largest values. -/
theorem isGreatest_chain {S : Fin 8 → Set EReal} {f : Fin 8 → EReal} (h : ∀ l, IsGreatest (S l) (f l)) :
    IsGreatest (⋃ l, S l) (chain max f) := by
  rw [iUnion_eight]
  exact (((((((h 0).union (h 1)).union (h 2)).union (h 3)).union (h 4)).union (h 5)).union (h 6)).union (h 7)

/-- The smallest of eight smallest values. -/
theorem isLeast_chain {S : Fin 8 → Set EReal} {f : Fin 8 → EReal} (h : ∀ l, IsLeast (S l) (f l)) :
    IsLeast (⋃ l, S l) (chain min f) := by
  rw [iUnion_eight]
  exact (((((((h 0).union (h 1)).union (h 2)).union (h 3)).union (h 4)).union (h 5)).union (h 6)).union (h 7)

/-- The rows are those of the eight blocks. -/
theorem range_rows (g : Fin 4096 → EReal) : (⋃ l, Set.range fun q => g (rowAt l q)) = Set.range g := by
  ext v
  simp only [Set.mem_iUnion, Set.mem_range]
  constructor
  · rintro ⟨l, q, h⟩; exact ⟨_, h⟩
  · rintro ⟨j, h⟩
    refine ⟨⟨j.val / 512, by omega⟩, ⟨j.val % 512, by omega⟩, ?_⟩
    rw [← h]; congr 1; exact Fin.ext (by simp only [rowAt]; omega)

/-- The chain of vector maxima, at an entry. -/
theorem chain_max_apply (f : Fin 8 → FVec Ideal S512 .f32) (p : S512.Idx) :
    chain (maximumf (F := Ideal)) f p = chain max fun l => f l p := rfl

/-- The chain of vector minima, at an entry. -/
theorem chain_min_apply (f : Fin 8 → FVec Ideal S512 .f32) (p : S512.Idx) :
    chain (minimumf (F := Ideal)) f p = chain min fun l => f l p := rfl

/-- A product of row blocks, entry by entry. -/
theorem blockProd_apply (a b : Vec Ideal S512x192 .bf16) (p q : Fin 512) :
    blockProd a b (ix2 p q) = ∑ k : Fin 192, a (ix2 p k) * b (ix2 q k) := by
  pointwise [blockProd]

section
variable (a b : Fin 8 → Vec Ideal S512x192 .bf16) (g : Fin 4096 → Fin 4096 → EReal)
  (hg : ∀ k l p q, blockProd (a k) (b l) (ix2 p q) = g (rowAt k p) (rowAt l q)) (hs : ∀ i j, g i j = g j i)
include hg hs

/-- What one block pair contributes to a row's largest product. -/
theorem maxPart_apply (k l : Fin 8) (p : Fin 512) :
    IsGreatest (Set.range fun q => g (rowAt k p) (rowAt l q)) (maxPart a b k l (ix1 p)) := by
  unfold maxPart
  split_ifs
  · have : colMax (blockProd (a l) (b k)) (ix1 p) = Finset.univ.fold max ⊥ fun q => g (rowAt k p) (rowAt l q) := by
      pointwise [colMax, hg, ofBits_bot]
      simp only [hs (rowAt k p)]
    rw [this]; exact isGreatest_fold _
  · have : rowMax (blockProd (a k) (b l)) (ix1 p) = Finset.univ.fold max ⊥ fun q => g (rowAt k p) (rowAt l q) := by
      pointwise [rowMax, hg, ofBits_bot]
    rw [this]; exact isGreatest_fold _

/-- What one block pair contributes to a row's smallest product. -/
theorem minPart_apply (k l : Fin 8) (p : Fin 512) :
    IsLeast (Set.range fun q => g (rowAt k p) (rowAt l q)) (minPart a b k l (ix1 p)) := by
  unfold minPart
  split_ifs
  · have : colMin (blockProd (a l) (b k)) (ix1 p) = Finset.univ.fold min ⊤ fun q => g (rowAt k p) (rowAt l q) := by
      pointwise [colMin, hg, ofBits_top]
      simp only [hs (rowAt k p)]
    rw [this]; exact isLeast_fold _
  · have : rowMin (blockProd (a k) (b l)) (ix1 p) = Finset.univ.fold min ⊤ fun q => g (rowAt k p) (rowAt l q) := by
      pointwise [rowMin, hg, ofBits_top]
    rw [this]; exact isLeast_fold _

/-- The running maximum of a row is its largest product. -/
theorem maxRow_apply (k : Fin 8) (p : Fin 512) :
    IsGreatest (Set.range fun j => g (rowAt k p) j) (maxRow a b k (ix1 p)) := by
  unfold maxRow
  rw [chain_max_apply, ← range_rows]
  exact isGreatest_chain fun l => maxPart_apply a b g hg hs k l p

/-- The running minimum of a row is its smallest product. -/
theorem minRow_apply (k : Fin 8) (p : Fin 512) :
    IsLeast (Set.range fun j => g (rowAt k p) j) (minRow a b k (ix1 p)) := by
  unfold minRow
  rw [chain_min_apply, ← range_rows]
  exact isLeast_chain fun l => minPart_apply a b g hg hs k l p

end

end Cert.KernelIdeal.Hand
end
-- ==== Proof.KernelValue.lean ====
module

public import proofs.«01_k».proof.Proof.Extremes

/-! The kernel's result: the mean hinge loss of the farthest positives and the nearest negatives. -/

@[expose] public section

set_option maxRecDepth 16384

noncomputable section

namespace Cert.KernelIdeal.Hand

open Idealize.ShloMosaic Idealize.SL.Sem Cert.KernelIdeal Cert.KernelIdeal.Gen Cert.Hand

/-- One row's hinge loss, from real inputs. -/
theorem hinge_apply {mx mn d cnt corr : FVec Ideal S512 .f32} {p : Fin 512} {m w z c r : ℝ} (hmx : mx (ix1 p) = (m : EReal))
    (hmn : mn (ix1 p) = (w : EReal)) (hd : d (ix1 p) = (z : EReal)) (hc : cnt (ix1 p) = (c : EReal))
    (hr : corr (ix1 p) = (r : EReal)) :
    hinge mx mn d cnt corr (ix1 p) =
      ((max ((if 3 / 2 < c then m - 1048576 else z - r) - (if c < 8191 / 2 then w else z - r) + 1) 0 : ℝ) : EReal) := by
  pointwise [hinge, hmx, hmn, hd, hc, hr, ofBits_gap, ofBits_three_halves, ofBits_rows_less_half]
  simp only [EReal.coe_lt_coe_iff, ← EReal.coe_sub, ← EReal.coe_one, ← EReal.coe_zero, ← apply_ite (fun v : ℝ => (v : EReal)),
    ← EReal.coe_add]
  exact (EReal.coe_strictMono.monotone.map_max).symm

/-- The sum of 512 entries. -/
theorem sum512_apply (v : FVec Ideal S512 .f32) : sum512 v = ∑ p : Fin 512, v (ix1 p) := by
  pointwise [sum512]

/-- The first row of a product of row blocks. -/
theorem firstRow_apply (M : FVec Ideal S512x512 .f32) (p : Fin 512) : firstRow M (ix1 p) = M (ix2 0 p) := by
  pointwise [firstRow]

/-- A part of a column. -/
theorem piece_apply (o : ℕ) (h) (v : FVec Ideal S4096x1 .f32) (k : Fin 8) (ho : o = k.val * 512) (p : Fin 512) :
    piece o h v (ix1 p) = v (ix2 (rowAt k p) 0) := by
  subst ho
  pointwise [piece]
  rfl

section
variable {x : Fin 4096 → Fin 64 → ℝ} {e : Vec Ideal S4096x64 .f32} (he : ∀ i k, e (ix2 i k) = (x i k : EReal))
  {t : Vec Ideal S4096 .i32} (ht : ∀ i, (t (ix1 i)).toNat < 100) (hx : ∀ i, sqNorm x i ≤ 262144)
  {P Q : Fin 4096 → ℝ} (hP : ∀ i, IsFar x (fun i => t (ix1 i)) 0 i (P i)) (hQ : ∀ i, IsNear x (fun i => t (ix1 i)) 0 i (Q i))
include he ht

/-- The product of two row blocks is the marked distances of their rows. -/
theorem blocks_apply (k l : Fin 8) (p q : Fin 512) :
    blockProd (blockOf (leftOp (F := Ideal) e (column t)) k) (blockOf (rightOp (F := Ideal) e (column t)) l) (ix2 p q) =
      (marked x (fun i => t (ix1 i)) 1048576 (rowAt k p) (rowAt l q) : EReal) := by
  rw [blockProd_apply]
  simp only [blockOf_apply]
  exact product_apply he ht _ _

omit he ht in
include hx hP hQ in
/-- One row's hinge loss is that of its farthest positive and nearest negative. -/
theorem row_loss (a b : Fin 8 → Vec Ideal S512x192 .bf16) (cnt corr : FVec Ideal S4096x1 .f32)
    (hg : ∀ k l p q, blockProd (a k) (b l) (ix2 p q) =
      (marked x (fun i => t (ix1 i)) 1048576 (rowAt k p) (rowAt l q) : EReal))
    (hc : ∀ i, cnt (ix2 i 0) = ((∑ j : Fin 4096, (if t (ix1 i) = t (ix1 j) then (1 : ℝ) else 0) : ℝ) : EReal))
    (hr : ∀ i, corr (ix2 i 0) = (((if t (ix1 i) = t (ix1 0) then 1048576 else 0 : ℝ)) : EReal))
    (k : Fin 8) (o : ℕ) (h) (ho : o = k.val * 512) (p : Fin 512) :
    hinge (maxRow a b k) (minRow a b k) (firstRow (blockProd (a 0) (b k))) (piece o h cnt) (piece o h corr) (ix1 p) =
      ((max (P (rowAt k p) - Q (rowAt k p) + 1) 0 : ℝ) : EReal) := by
  have hs : ∀ i j, (marked x (fun i => t (ix1 i)) 1048576 i j : EReal) = marked x (fun i => t (ix1 i)) 1048576 j i :=
    fun i j => by rw [marked_comm]
  have hb : ∀ i j, gap x i j ≤ 1048576 := fun i j => by
    have := gap_le x i j; have := hx i; have := hx j; linarith
  have hz0 : rowAt 0 0 = 0 := rfl
  obtain ⟨⟨jm, hm⟩, hm'⟩ := maxRow_apply a b _ hg hs k p
  obtain ⟨⟨jw, hw⟩, hw'⟩ := minRow_apply a b _ hg hs k p
  rw [← hm] at hm'
  rw [← hw] at hw'
  have hd : firstRow (blockProd (a 0) (b k)) (ix1 p) =
      (marked x (fun i => t (ix1 i)) 1048576 0 (rowAt k p) : EReal) := by
    rw [firstRow_apply, hg, hz0]
  rw [hinge_apply hm.symm hw.symm hd ((piece_apply o h _ k ho p).trans (hc _)) ((piece_apply o h _ k ho p).trans (hr _))]
  generalize rowAt k p = i at *
  have hz : marked x (fun i => t (ix1 i)) 1048576 0 i - (if t (ix1 i) = t (ix1 0) then 1048576 else 0) = gap x i 0 := by
    unfold marked; rw [gap_comm]; simp only [eq_comm]; ring
  have hN : ((4096 : ℕ) : ℝ) - (1 / 2 : ℝ) = 8191 / 2 := by norm_num
  have hlt := count_lt (fun i : Fin 4096 => t (ix1 i)) i
  rw [hN] at hlt
  have hgt := count_gt (fun i : Fin 4096 => t (ix1 i)) i
  rw [hz]
  have h1 : (if 3 / 2 < ∑ j : Fin 4096, (if t (ix1 i) = t (ix1 j) then (1 : ℝ) else 0) then
      marked x (fun i => t (ix1 i)) 1048576 i jm - 1048576 else gap x i 0) = P i := IsFar.unique (far_of_marked (z := 0) (hb i) (fun j => EReal.coe_le_coe_iff.mp (hm' ⟨j, rfl⟩)) ⟨jm, rfl⟩
    (fun hp => if_pos (hgt.mpr hp)) (fun hp => if_neg (fun c => hp (hgt.mp c)))) (hP i)
  have h2 : (if ∑ j : Fin 4096, (if t (ix1 i) = t (ix1 j) then (1 : ℝ) else 0) < 8191 / 2 then
      marked x (fun i => t (ix1 i)) 1048576 i jw else gap x i 0) = Q i := IsNear.unique (near_of_marked (z := 0) (hb i) (fun j => EReal.coe_le_coe_iff.mp (hw' ⟨j, rfl⟩)) ⟨jw, rfl⟩
    (fun hp => if_pos (hlt.mpr hp)) (fun hp => if_neg (fun c => hp (hlt.mp c)))) (hQ i)
  rw [h1, h2]

include hx hP hQ

/-- One block's summed loss. -/
theorem block_loss (k : Fin 8) (o : ℕ) (h) (ho : o = k.val * 512) :
    blockLoss (blockOf (leftOp (F := Ideal) e (column t))) (blockOf (rightOp e (column t))) (k0_pay17 (k0_pay2 (column t)))
        (k0_pay18 (k0_pay1 (F := Ideal) (column t)) (firstLabel (F := Ideal) (column t))) k o h =
      ((∑ p : Fin 512, max (P (rowAt k p) - Q (rowAt k p) + 1) 0 : ℝ) : EReal) := by
  unfold blockLoss
  rw [sum512_apply, coe_sum]
  exact Finset.sum_congr rfl fun p _ => row_loss hx hP hQ _ _ _ _ (blocks_apply he ht)
    (fun i => counts_apply ht i 0) (fun i => corrections_apply t i 0) k o h ho p

/-- The eight blocks' losses. -/
theorem losses_apply (k : Fin 8) :
    losses (blockOf (leftOp (F := Ideal) e (column t))) (blockOf (rightOp e (column t))) (k0_pay17 (k0_pay2 (column t)))
        (k0_pay18 (k0_pay1 (F := Ideal) (column t)) (firstLabel (F := Ideal) (column t))) k =
      ((∑ p : Fin 512, max (P (rowAt k p) - Q (rowAt k p) + 1) 0 : ℝ) : EReal) := by
  fin_cases k <;> exact block_loss he ht hx hP hQ _ _ _ rfl

/-- The kernel's loss is the mean hinge loss. -/
theorem kernel_value : kernelLoss (F := Ideal) e t = (meanHinge P Q 4096 : EReal) := by
  unfold kernelLoss meanLoss
  simp only [losses_apply he ht hx hP hQ]
  have hsum : ∑ i : Fin 4096, max (P i - Q i + 1) 0 = ∑ k : Fin 8, ∑ p : Fin 512, max (P (rowAt k p) - Q (rowAt k p) + 1) 0 :=
    Fin.sum_univ_tiles 8 512 rfl _
  unfold meanHinge
  rw [hsum]
  pointwise [ofBits_rows]
  rw [Ideal.div_coe (by norm_num : (4096 : ℝ) ≠ 0)]
  rw [Fin.sum_univ_eight]
  simp only [← EReal.coe_add, ← EReal.coe_mul]

end

end Cert.KernelIdeal.Hand
end
-- ==== Proof.Domain.lean ====
module

public import proofs.«01_k».proof.Pre_in_range
public import proofs.«01_k».proof.Proof.Consts
public import proofs.«01_k».proof.Proof.Common
public import Idealize.ShloMosaic.Lib.ReduceAll
public import Idealize.ShloMosaic.Lib.WordCmp

/-! What the precondition says of the arguments: the rows are real and short, and the labels are below a hundred. -/

@[expose] public section

set_option maxRecDepth 16384

noncomputable section

namespace Cert.Pre_in_range.Hand

open Idealize.ShloMosaic Cert.Pre_in_range Cert.Hand

/-- The shapes the precondition's operations need. -/
theorem facts : Cert.Pre_in_range.Facts where
  reducesTo_S4096x64_S4096_d1 := by decide
  h_S_ := by decide
  bcast_S_S4096 := by decide
  reducesTo_S4096_S_d0 := by decide

/-- A square is not negative, at the infinities too. -/
theorem square_nonneg (a : EReal) : 0 ≤ a * a := by
  induction a with
  | bot => simp
  | top => simp
  | coe r => exact_mod_cast mul_self_nonneg r

/-- A value whose square is at most a real is real. -/
theorem real_of_square_le (a : EReal) (r : ℝ) (h : a * a ≤ (r : EReal)) : a = (a.toReal : EReal) := by
  induction a with
  | bot => simp at h
  | top => simp at h
  | coe s => rfl

/-- Two words that both hold. -/
theorem both (a b : BitVec 1) (h : IntOp.andi a b = 1#1) : a = 1#1 ∧ b = 1#1 := by
  revert h; revert a b; decide

section
variable [hF : Cert.Pre_in_range.Facts] (e : FVec Ideal S4096x64 .f32) (t : IVec S4096 32)
  (h : Cert.Pre_in_range.fn (F := Ideal) e t = fun _ => 1#1)
include h

/-- Every row's sum of squares is at most the bound. -/
theorem sums_le (i : Fin 4096) : ∑ k : Fin 64, e (ix2 i k) * e (ix2 i k) ≤ ((262144 : ℝ) : EReal) := by
  have h1 := (both _ _ (congrFun h (Shape.Idx.first Facts.h_S_))).1
  have h2 := Host.reduce_andi_all _ _ _ _ _ h1 (ix1 i)
  have h3 : Ideal.cmp .ole (Host.reduceAdd (mulf e e) (constant (F := Ideal) S_ .f32 0x00000000#32)
      Facts.reducesTo_S4096x64_S4096_d1 Facts.h_S_ (ix1 i)) (Ideal.ofBits .f32 0x48800000#32) = 1#1 := h2
  have h4 : Host.reduceAdd (mulf e e) (constant (F := Ideal) S_ .f32 0x00000000#32)
      Facts.reducesTo_S4096x64_S4096_d1 Facts.h_S_ (ix1 i) = ∑ k : Fin 64, e (ix2 i k) * e (ix2 i k) := by
    pointwise []
  rw [h4, ofBits_bound] at h3
  by_contra hc
  unfold Ideal.cmp at h3
  simp only [decide_eq_false hc] at h3
  exact absurd h3 (by decide)

/-- Every label is at least zero and below a hundred. -/
theorem label_lt (i : Fin 4096) : (t (ix1 i)).toNat < 100 := by
  have h1 := (both _ _ (congrFun h (Shape.Idx.first Facts.h_S_))).2
  have h2 := Host.reduce_andi_all _ _ _ _ _ h1 (ix1 i)
  have h3 : IntOp.andi (IntOp.cmpi .sge (t (ix1 i)) 0#32) (IntOp.cmpi .slt (t (ix1 i)) 100#32) = 1#1 := h2
  obtain ⟨h4, h5⟩ := both _ _ h3
  rw [WordCmp.cmpi_sge_eq, WordCmp.ofBool_decide_eq_one_iff] at h4
  rw [WordCmp.cmpi_slt_eq, WordCmp.ofBool_decide_eq_one_iff] at h5
  have h0 : (0#32 : BitVec 32).toInt = 0 := rfl
  have h100 : (100#32 : BitVec 32).toInt = 100 := rfl
  rw [h0] at h4
  rw [h100] at h5
  rw [BitVec.toInt_eq_toNat_cond] at h4 h5
  have := (t (ix1 i)).isLt
  split_ifs at h4 h5 <;> omega

/-- The entries are real. -/
theorem entries_real (i : Fin 4096) (k : Fin 64) : e (ix2 i k) = ((e (ix2 i k)).toReal : EReal) :=
  real_of_square_le _ 262144 ((Finset.single_le_sum (f := fun k => e (ix2 i k) * e (ix2 i k))
    (fun _ _ => square_nonneg _) (Finset.mem_univ k)).trans (sums_le e t h i))

/-- Every row's squared norm is at most the bound. -/
theorem norms_le (i : Fin 4096) : sqNorm (fun i k => (e (ix2 i k)).toReal) i ≤ 262144 := by
  have hs := sums_le e t h i
  have hc : ∑ k : Fin 64, e (ix2 i k) * e (ix2 i k) = (sqNorm (fun i k => (e (ix2 i k)).toReal) i : EReal) := by
    unfold sqNorm
    rw [coe_sum]
    exact Finset.sum_congr rfl fun k _ => by rw [EReal.coe_mul, ← entries_real e t h i k]
  rw [hc] at hs
  exact_mod_cast hs

end

end Cert.Pre_in_range.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.RefValue
public import proofs.«01_k».proof.Proof.KernelRun
public import proofs.«01_k».proof.Proof.KernelValue
public import proofs.«01_k».proof.Proof.Domain
public import Idealize.ShloMosaic.Adequacy
public import Idealize.ShloMosaic.Init

@[expose] public section

noncomputable section

namespace Cert.Proof

open Idealize.ShloMosaic Idealize.SL.Sem Cert.Kernel

/-- Where the precondition holds, the reference's loss is the kernel's. -/
theorem losses_agree [hPre_in_range : Cert.Pre_in_range.Facts] (e : FVec Ideal Cert.Pre_in_range.S4096x64 .f32) (t : IVec Cert.Pre_in_range.S4096 32)
    (h : Cert.Pre_in_range.fn (F := Ideal) e t = fun _ => 1#1) :
    Cert.ReferenceIdeal.Hand.refLoss e t = fun _ => Cert.KernelIdeal.Hand.kernelLoss (F := Ideal) e t := by
  have he := Cert.Pre_in_range.Hand.entries_real e t h
  have hx := Cert.Pre_in_range.Hand.norms_le e t h
  obtain ⟨P, Q, hP, hQ, hr⟩ := Cert.ReferenceIdeal.Hand.ref_value he t hx
  rw [hr, Cert.KernelIdeal.Hand.kernel_value he (Cert.Pre_in_range.Hand.label_lt e t h) hx hP hQ]

/-- The reference runs, keeps its arguments and ends with every semaphore at zero, under the precondition too. -/
theorem reference_frame_pre (hR : Cert.ReferenceIdeal.Facts) (hPre : Cert.Pre_in_range.Facts) :
    Cert.quiescent_ReferenceIdeal_pre_in_range (hReferenceIdeal := hR) (hPre_in_range := hPre) :=
  fun m g _ => Cert.ReferenceIdeal.Hand.frame m g trivial

/-- From equal arguments in the range, the kernel and the reference end with equal results. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Hand.facts) := by
  intro m g m' g' hpre hagree
  refine ⟨fun c _ => Cert.KernelIdeal.Hand.kernelLoss (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun _ => constantI Cert.KernelIdeal.S_ 32 4096#32, Cert.KernelIdeal.Hand.run_value m g, ?_⟩
  refine θ_run_mono (Cert.ReferenceIdeal.Hand.run_value m' g') fun r h c => ⟨(h c).1.trans ?_, (h c).2⟩
  rw [(hagree c).1, (hagree c).2]
  exact losses_agree (hPre_in_range := Cert.Pre_in_range.Hand.facts) _ _ (hpre c)

/-- The programs' runs keep their arguments and end with every semaphore at zero, and the kernel's results are the
    reference's. -/
theorem claim : Cert.Claim := ⟨Cert.Kernel.Gen.facts, Cert.KernelIdeal.Gen.facts, Cert.ReferenceIdeal.Gen.facts,
  Cert.Pre_in_range.Hand.facts,
  fun m g _ => Cert.Kernel.Gen.frame m g,
  fun m g _ => Cert.KernelIdeal.Gen.frame m g,
  fun m g _ => Cert.KernelIdeal.Gen.frame m g,
  Cert.ReferenceIdeal.Hand.frame,
  reference_frame_pre _ _,
  trivial,
  algebraic⟩

end Cert.Proof

end
